-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 512, 768]⟩ ⟨3, ![2, 2048, 768]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 512, 8, 64]⟩ ⟨4, ![2, 2048, 8, 64]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 2048, 8, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.block ⟨3, ![2, 512, 768]⟩ ⟨3, ![2, 2048, 768]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x768 : Shape := ⟨3, ![2, 512, 768]⟩
abbrev S768x512 : Shape := ⟨2, ![768, 512]⟩
abbrev S2x512x8x64 : Shape := ⟨4, ![2, 512, 8, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x512x8x64 : S_.BroadcastsInDim S2x512x8x64 (![] : Fin 0 → Fin S2x512x8x64.rank)
  reducesTo_S2x512x8x64_S_d0_1_2_3 : S2x512x8x64.ReducesTo [0, 1, 2, 3] S_

variable [Facts]

def fn {F : FTy → Type} [FloatOps F] (main_arg0 : FVec F S2x512x768 .f32) (main_arg1 : FVec F S768x512 .f32) (main_arg2 : FVec F S2x512x8x64 .f32) (main_arg3 : FVec F S2x512x8x64 .f32) (main_arg4 : FVec F S512x768 .f32) : IVec S_ 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x512 .f32 := Host.absf main_arg1
  let main_cst_0 : FVec F S_ .f32 := constant S_ .f32 0x7F800000#32
  let main_v5 : FVec F S768x512 .f32 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S2x512x8x64 .f32 := Host.absf main_arg2
  let main_cst_2 : FVec F S_ .f32 := constant S_ .f32 0x7F800000#32
  let main_v10 : FVec F S2x512x8x64 .f32 := broadcastInDim S2x512x8x64 ![] bcast_S_S2x512x8x64 main_cst_2
  let main_v11 : IVec S2x512x8x64 1 := cmpf .olt main_v9 main_v10
  let main_c_3 : IVec S_ 1 := constantI S_ 1 1#1
  let main_v12 : IVec S_ 1 := (fun x v => Host.reduce IntOp.andi x v reducesTo_S2x512x8x64_S_d0_1_2_3 h_S_) main_v11 main_c_3
  let main_v13 : IVec S_ 1 := andi main_v8 main_v12
  main_v13
-- ==== Pre_finite_ReferenceIdeal.lean ====
abbrev S2x2048x768 : Shape := ⟨3, ![2, 2048, 768]⟩
abbrev S768x512 : Shape := ⟨2, ![768, 512]⟩
abbrev S2x2048x8x64 : Shape := ⟨4, ![2, 2048, 8, 64]⟩
abbrev S512x768 : Shape := ⟨2, ![512, 768]⟩
abbrev S_ : Shape := ⟨0, ![]⟩

class Facts : Prop where
  bcast_S_S2x2048x768 : S_.BroadcastsInDim S2x2048x768 (![] : Fin 0 → Fin S2x2048x768.rank)
  reducesTo_S2x2048x768_S_d0_1_2 : S2x2048x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x2048x8x64 : S_.BroadcastsInDim S2x2048x8x64 (![] : Fin 0 → Fin S2x2048x8x64.rank)
  reducesTo_S2x2048x8x64_S_d0_1_2_3 : S2x2048x8x64.ReducesTo [0, 1, 2, 3] S_

variable [Facts]

def fn {F : FTy → Type} [FloatOps F] (main_arg0 : FVec F S2x2048x768 .f32) (main_arg1 : FVec F S768x512 .f32) (main_arg2 : FVec F S2x2048x8x64 .f32) (main_arg3 : FVec F S2x2048x8x64 .f32) (main_arg4 : FVec F S512x768 .f32) : IVec S_ 1 :=
  let main_v0 : FVec F S2x2048x768 .f32 := Host.absf main_arg0
  let main_cst : FVec F S_ .f32 := constant S_ .f32 0x7F800000#32
  let main_v1 : FVec F S2x2048x768 .f32 := broadcastInDim S2x2048x768 ![] bcast_S_S2x2048x768 main_cst
  let main_v2 : IVec S2x2048x768 1 := cmpf .olt main_v0 main_v1
  let main_c : IVec S_ 1 := constantI S_ 1 1#1
  let main_v3 : IVec S_ 1 := (fun x v => Host.reduce IntOp.andi x v reducesTo_S2x2048x768_S_d0_1_2 h_S_) main_v2 main_c
  let main_v4 : FVec F S768x512 .f32 := Host.absf main_arg1
  let main_cst_0 : FVec F S_ .f32 := constant S_ .f32 0x7F800000#32
  let main_v5 : FVec F S768x512 .f32 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S2x2048x8x64 .f32 := Host.absf main_arg2
  let main_cst_2 : FVec F S_ .f32 := constant S_ .f32 0x7F800000#32
  let main_v10 : FVec F S2x2048x8x64 .f32 := broadcastInDim S2x2048x8x64 ![] bcast_S_S2x2048x8x64 main_cst_2
  let main_v11 : IVec S2x2048x8x64 1 := cmpf .olt main_v9 main_v10
  let main_c_3 : IVec S_ 1 := constantI S_ 1 1#1
  let main_v12 : IVec S_ 1 := (fun x v => Host.reduce IntOp.andi x v reducesTo_S2x2048x8x64_S_d0_1_2_3 h_S_) main_v11 main_c_3
  let main_v13 : IVec S_ 1 := andi main_v8 main_v12
  main_v13
-- ==== Kernel.lean ====
abbrev S2x512x768 : Shape := ⟨3, ![2, 512, 768]⟩
abbrev S768x512 : Shape := ⟨2, ![768, 512]⟩
abbrev S2x512x8x64 : Shape := ⟨4, ![2, 512, 8, 64]⟩
abbrev S512x768 : Shape := ⟨2, ![512, 768]⟩
abbrev S2x8x64x512 : Shape := ⟨4, ![2, 8, 64, 512]⟩
abbrev S2x8x64x128 : Shape := ⟨4, ![2, 8, 64, 128]⟩
abbrev S4 : Shape := ⟨1, ![4]⟩
abbrev S_ : Shape := ⟨0, ![]⟩
abbrev S1 : Shape := ⟨1, ![1]⟩
abbrev S1024x768 : Shape := ⟨2, ![1024, 768]⟩
abbrev S1024x512 : Shape := ⟨2, ![1024, 512]⟩
abbrev S128x384 : Shape := ⟨2, ![128, 384]⟩
abbrev S1x1x64x384 : Shape := ⟨4, ![1, 1, 64, 384]⟩
abbrev S64x384 : Shape := ⟨2, ![64, 384]⟩
abbrev S128x64 : Shape := ⟨2, ![128, 64]⟩
abbrev S128 : Shape := ⟨1, ![128]⟩
abbrev S128x1 : Shape := ⟨2, ![128, 1]⟩
abbrev S128x512 : Shape := ⟨2, ![128, 512]⟩
abbrev S128x768 : Shape := ⟨2, ![128, 768]⟩
abbrev S1x128x768 : Shape := ⟨3, ![1, 128, 768]⟩
abbrev S1x1x64x128 : Shape := ⟨4, ![1, 1, 64, 128]⟩
abbrev S64x128 : Shape := ⟨2, ![64, 128]⟩
abbrev S1x1x64x256 : Shape := ⟨4, ![1, 1, 64, 256]⟩
abbrev S64x256 : Shape := ⟨2, ![64, 256]⟩

abbrev nBuf : Space → Nat
  | .hbm => 8
  | .vmem => 14
  | .smem => 0
  | _ => 0

abbrev bufTy : (tb : Table) → Fin (tcTables nBuf tb) → BufTy
  | .hbm, ⟨0, _⟩ => ⟨S2x512x768, .f32⟩
  | .hbm, ⟨1, _⟩ => ⟨S768x512, .f32⟩
  | .hbm, ⟨2, _⟩ => ⟨S2x512x8x64, .f32⟩
  | .hbm, ⟨3, _⟩ => ⟨S2x512x8x64, .f32⟩
  | .hbm, ⟨4, _⟩ => ⟨S512x768, .f32⟩
  | .hbm, ⟨5, _⟩ => ⟨S2x8x64x512, .f32⟩
  | .hbm, ⟨6, _⟩ => ⟨S2x8x64x512, .f32⟩
  | .hbm, ⟨7, _⟩ => ⟨S2x512x768, .f32⟩
  | .local _ .vmem, ⟨0, _⟩ => ⟨S2x512x768, .f32⟩
  | .local _ .vmem, ⟨1, _⟩ => ⟨S768x512, .f32⟩
  | .local _ .vmem, ⟨2, _⟩ => ⟨S2x8x64x512, .f32⟩
  | .local _ .vmem, ⟨3, _⟩ => ⟨S2x8x64x512, .f32⟩
  | .local _ .vmem, ⟨4, _⟩ => ⟨S512x768, .f32⟩
  | .local _ .vmem, ⟨5, _⟩ => ⟨S2x512x768, .f32⟩
  | .local _ .vmem, ⟨6, _⟩ => ⟨S2x8x64x128, .bf16⟩
  | .local _ .vmem, ⟨7, _⟩ => ⟨S2x8x64x128, .bf16⟩
  | .local _ .vmem, ⟨8, _⟩ => ⟨S2x8x64x128, .bf16⟩
  | .local _ .vmem, ⟨9, _⟩ => ⟨S2x8x64x128, .bf16⟩
  | .local _ .vmem, ⟨10, _⟩ => ⟨S2x8x64x128, .bf16⟩
  | .local _ .vmem, ⟨11, _⟩ => ⟨S2x8x64x128, .bf16⟩
  | .local _ .vmem, ⟨12, _⟩ => ⟨S2x8x64x128, .bf16⟩
  | .local _ .vmem, ⟨13, _⟩ => ⟨S2x8x64x128, .bf16⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_36 : BitVec 32 := 1#32
  let v33 : BitVec 32 := Scalar.muli v5 c1_i32_36
  let v34 : BitVec 32 := Scalar.addi c0_i32 v33
  v34.toNat
def k0_dev2 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_38 : BitVec 32 := 1#32
  let v35 : BitVec 32 := Scalar.muli v7 c1_i32_38
  let v36 : BitVec 32 := Scalar.addi c0_i32_39 v35
  v36.toNat
def k0_dev3 (d0 : Dev nD) : Nat :=
  let c0_i32_43 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_42 : BitVec 32 := 1#32
  let v37 : BitVec 32 := Scalar.muli v5 c1_i32_42
  let v38 : BitVec 32 := Scalar.addi c0_i32_43 v37
  v38.toNat
def k0_dev4 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_46 : BitVec 32 := 1#32
  let v43 : BitVec 32 := Scalar.muli v5 c1_i32_46
  let v44 : BitVec 32 := Scalar.addi c0_i32_47 v43
  v44.toNat
def k0_dev5 (d0 : Dev nD) : Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_50 : BitVec 32 := 1#32
  let v49 : BitVec 32 := Scalar.muli v7 c1_i32_50
  let v50 : BitVec 32 := Scalar.addi c0_i32_51 v49
  v50.toNat
def k0_dev6 (d0 : Dev nD) : Nat :=
  let c0_i32_54 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_53 : BitVec 32 := 1#32
  let v55 : BitVec 32 := Scalar.muli v7 c1_i32_53
  let v56 : BitVec 32 := Scalar.addi c0_i32_54 v55
  v56.toNat
abbrev stage0_0 : Fin 1 → Memref sig .tc .vmem S2x512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8x64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8x64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x2048x768 : Shape := ⟨3, ![2, 2048, 768]⟩
abbrev S768x512 : Shape := ⟨2, ![768, 512]⟩
abbrev S2x2048x8x64 : Shape := ⟨4, ![2, 2048, 8, 64]⟩
abbrev S512x768 : Shape := ⟨2, ![512, 768]⟩
abbrev S2x2048x512 : Shape := ⟨3, ![2, 2048, 512]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S2x8x2048x2048 : Shape := ⟨4, ![2, 8, 2048, 2048]⟩
abbrev S1x1x2048x2048 : Shape := ⟨4, ![1, 1, 2048, 2048]⟩
abbrev S2x8x2048 : Shape := ⟨3, ![2, 8, 2048]⟩
abbrev S2x8x2048x1 : Shape := ⟨4, ![2, 8, 2048, 1]⟩
abbrev S1x1x2048x1 : Shape := ⟨4, ![1, 1, 2048, 1]⟩
abbrev S2x8x64x2048 : Shape := ⟨4, ![2, 8, 64, 2048]⟩

abbrev nBuf : Space → Nat
  | .hbm => 57
  | .vmem => 0
  | .smem => 0
  | _ => 0

abbrev bufTy : (tb : Table) → Fin (tcTables nBuf tb) → BufTy
  | .hbm, ⟨0, _⟩ => ⟨S2x2048x768, .f32⟩
  | .hbm, ⟨1, _⟩ => ⟨S768x512, .f32⟩
  | .hbm, ⟨2, _⟩ => ⟨S2x2048x8x64, .f32⟩
  | .hbm, ⟨3, _⟩ => ⟨S2x2048x8x64, .f32⟩
  | .hbm, ⟨4, _⟩ => ⟨S512x768, .f32⟩
  | .hbm, ⟨5, _⟩ => ⟨S2x2048x512, .f32⟩
  | .hbm, ⟨6, _⟩ => ⟨S2x2048x8x64, .f32⟩
  | .hbm, ⟨7, _⟩ => ⟨S2048, .i32⟩
  | .hbm, ⟨8, _⟩ => ⟨S2048x1, .i32⟩
  | .hbm, ⟨9, _⟩ => ⟨S2048, .i32⟩
  | .hbm, ⟨10, _⟩ => ⟨S1x2048, .i32⟩
  | .hbm, ⟨11, _⟩ => ⟨S2048x2048, .i32⟩
  | .hbm, ⟨12, _⟩ => ⟨S2048x2048, .i32⟩
  | .hbm, ⟨13, _⟩ => ⟨S2048x2048, .i32⟩
  | .hbm, ⟨14, _⟩ => ⟨S2048x2048, .i32⟩
  | .hbm, ⟨15, _⟩ => ⟨S_, .i32⟩
  | .hbm, ⟨16, _⟩ => ⟨S2048x2048, .i32⟩
  | .hbm, ⟨17, _⟩ => ⟨S2048x2048, .i1⟩
  | .hbm, ⟨18, _⟩ => ⟨S2x8x2048x2048, .f32⟩
  | .hbm, ⟨19, _⟩ => ⟨S_, .f32⟩
  | .hbm, ⟨20, _⟩ => ⟨S2x8x2048x2048, .f32⟩
  | .hbm, ⟨21, _⟩ => ⟨S2x8x2048x2048, .f32⟩
  | .hbm, ⟨22, _⟩ => ⟨S1x1x2048x2048, .i1⟩
  | .hbm, ⟨23, _⟩ => ⟨S_, .f32⟩
  | .hbm, ⟨24, _⟩ => ⟨S_, .f32⟩
  | .hbm, ⟨25, _⟩ => ⟨S2x8x2048x2048, .i1⟩
  | .hbm, ⟨26, _⟩ => ⟨S2x8x2048x2048, .f32⟩
  | .hbm, ⟨27, _⟩ => ⟨S2x8x2048x2048, .f32⟩
  | .hbm, ⟨28, _⟩ => ⟨S_, .f32⟩
  | .hbm, ⟨29, _⟩ => ⟨S2x8x2048, .f32⟩
  | .hbm, ⟨30, _⟩ => ⟨S2x8x2048x1, .f32⟩
  | .hbm, ⟨31, _⟩ => ⟨S2x8x2048x2048, .f32⟩
  | .hbm, ⟨32, _⟩ => ⟨S2x8x2048x2048, .f32⟩
  | .hbm, ⟨33, _⟩ => ⟨S2x8x2048x2048, .f32⟩
  | .hbm, ⟨34, _⟩ => ⟨S_, .i1⟩
  | .hbm, ⟨35, _⟩ => ⟨S2048, .i1⟩
  | .hbm, ⟨36, _⟩ => ⟨S1x1x2048x1, .i1⟩
  | .hbm, ⟨37, _⟩ => ⟨S_, .f32⟩
  | .hbm, ⟨38, _⟩ => ⟨S2x8x2048, .f32⟩
  | .hbm, ⟨39, _⟩ => ⟨S2x8x2048x1, .f32⟩
  | .hbm, ⟨40, _⟩ => ⟨S_, .f32⟩
  | .hbm, ⟨41, _⟩ => ⟨S_, .f32⟩
  | .hbm, ⟨42, _⟩ => ⟨S2x8x2048x1, .i1⟩
  | .hbm, ⟨43, _⟩ => ⟨S2x8x2048x1, .f32⟩
  | .hbm, ⟨44, _⟩ => ⟨S2x8x2048x1, .f32⟩
  | .hbm, ⟨45, _⟩ => ⟨S2x8x2048x2048, .f32⟩
  | .hbm, ⟨46, _⟩ => ⟨S2x8x2048x2048, .f32⟩
  | .hbm, ⟨47, _⟩ => ⟨S1x1x2048x1, .i1⟩
  | .hbm, ⟨48, _⟩ => ⟨S_, .f32⟩
  | .hbm, ⟨49, _⟩ => ⟨S_, .f32⟩
  | .hbm, ⟨50, _⟩ => ⟨S2x8x2048x2048, .i1⟩
  | .hbm, ⟨51, _⟩ => ⟨S2x8x2048x2048, .f32⟩
  | .hbm, ⟨52, _⟩ => ⟨S2x8x2048x2048, .f32⟩
  | .hbm, ⟨53, _⟩ => ⟨S2x8x64x2048, .f32⟩
  | .hbm, ⟨54, _⟩ => ⟨S2x2048x8x64, .f32⟩
  | .hbm, ⟨55, _⟩ => ⟨S2x2048x512, .f32⟩
  | .hbm, ⟨56, _⟩ => ⟨S2x2048x768, .f32⟩
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.Proto.lean ====
/-
The halo exchange as a protocol: the cells, who pays each duty, what each landing hands over, and what a device
carries from the launch to the kernel's body.

Every device `c` sits on a ring of four. It signals the barrier of the device before it (`prv c`), then the barrier
of the device after it (`nxt c`), and waits for two units on its own. A barrier cell has two duties in its one round:
`false`, paid by the device after it (handing over its two LEFT landing buffers, which the cell's owner fills with
the last 128 columns of its keys and values), and `true`, paid by the device before it (handing over its two RIGHT
landing buffers, filled with the first 128 columns). Each of the four receive cells and each of the four send cells
has one duty, `false`: a receive cell's landing hands its owner the landing buffer at the neighbour's columns, a send
cell's hands back the staging buffer it was sent from.
-/
module

public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.RegionTalk
public import Idealize.ShloMosaic.Lib.Pipeline.Regions
public import Idealize.ShloMosaic.Lib.Pipeline.Kit
public import Idealize.ShloMosaic.Lib.Rounds
public import Idealize.ShloMosaic.Lib.Tactic

@[expose] public section

noncomputable section

namespace Cert.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The resource algebra: the pipeline library's copy beside this protocol's, whose duties are named by `Bool` -/

abbrev UH : Type := URounds (GSem nD τ sig) Bool
abbrev UU : Type := UR sig nD τ × UH

local notation "𝕄" => MT nD τ sig Unit (Elt F) ℕ UU ℕ

abbrev EP : Emb (UR sig nD τ) (MT nD τ sig Unit (Elt F) ℕ UU ℕ) := embL
abbrev ER : Emb UH (MT nD τ sig Unit (Elt F) ℕ UU ℕ) := embR

/-! ## The ring -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide
/-- Going once around, as a permutation of the devices. -/
def around : Dev nD ≃ Dev nD := ⟨nxt, prv, prv_nxt, nxt_prv⟩

theorem dev1 (c : Dev nD) : (⟨k0_dev1 c, k0_dev1_lt c⟩ : Dev nD) = prv c := Fin.ext (k0_dev1_eq c)
theorem dev2 (c : Dev nD) : (⟨k0_dev2 c, k0_dev2_lt c⟩ : Dev nD) = nxt c := Fin.ext (k0_dev2_eq c)
theorem dev3 (c : Dev nD) : (⟨k0_dev3 c, k0_dev3_lt c⟩ : Dev nD) = prv c := Fin.ext (k0_dev3_eq c)
theorem dev4 (c : Dev nD) : (⟨k0_dev4 c, k0_dev4_lt c⟩ : Dev nD) = prv c := Fin.ext (k0_dev4_eq c)
theorem dev5 (c : Dev nD) : (⟨k0_dev5 c, k0_dev5_lt c⟩ : Dev nD) = nxt c := Fin.ext (k0_dev5_eq c)
theorem dev6 (c : Dev nD) : (⟨k0_dev6 c, k0_dev6_lt c⟩ : Dev nD) = nxt c := Fin.ext (k0_dev6_eq c)

/-! ## Buffers and cells -/

abbrev xM : Memref sig .tc .vmem S2x512x768 .f32 := Memref.whole cc0_stg0_0
abbrev wqM : Memref sig .tc .vmem S768x512 .f32 := Memref.whole cc0_stg1_0
abbrev kM : Memref sig .tc .vmem S2x8x64x512 .f32 := Memref.whole cc0_stg2_0
abbrev vM : Memref sig .tc .vmem S2x8x64x512 .f32 := Memref.whole cc0_stg3_0
abbrev woM : Memref sig .tc .vmem S512x768 .f32 := Memref.whole cc0_stg4_0
abbrev oM : Memref sig .tc .vmem S2x512x768 .f32 := Memref.whole cc0_stg5_0
/-- The landing buffers: left keys, left values, right keys, right values. -/
abbrev lkM : Memref sig .tc .vmem S2x8x64x128 .bf16 := Memref.whole cc0_scratch0
abbrev lvM : Memref sig .tc .vmem S2x8x64x128 .bf16 := Memref.whole cc0_scratch1
abbrev rkM : Memref sig .tc .vmem S2x8x64x128 .bf16 := Memref.whole cc0_scratch2
abbrev rvM : Memref sig .tc .vmem S2x8x64x128 .bf16 := Memref.whole cc0_scratch3
/-- The staging buffers the transfers leave from: the first columns' keys and values, the last columns'. -/
abbrev s0M : Memref sig .tc .vmem S2x8x64x128 .bf16 := Memref.whole cc0_scratch4
abbrev s1M : Memref sig .tc .vmem S2x8x64x128 .bf16 := Memref.whole cc0_scratch5
abbrev s2M : Memref sig .tc .vmem S2x8x64x128 .bf16 := Memref.whole cc0_scratch6
abbrev s3M : Memref sig .tc .vmem S2x8x64x128 .bf16 := Memref.whole cc0_scratch7

abbrev barS : Sem sig := barrier0
abbrev sendS (k : Fin 4) : DmaSem sig := ⟨6 + k.val, by have := k.isLt; show 6 + k.val < 14; omega⟩
abbrev recvS (k : Fin 4) : DmaSem sig := ⟨10 + k.val, by have := k.isLt; show 10 + k.val < 14; omega⟩

abbrev barCell (c : Dev nD) : GSem nD τ sig := ((c : Thread nD τ), .reg barS)
abbrev sendCell (k : Fin 4) (c : Dev nD) : GSem nD τ sig := ((c : Thread nD τ), .dma (sendS k))
abbrev recvCell (k : Fin 4) (c : Dev nD) : GSem nD τ sig := ((c : Thread nD τ), .dma (recvS k))

/-- The kernel's own semaphores: the four it sends on, the four it receives on. -/
abbrev osem : Fin 8 → SemLoc sig := fun k => .dma ⟨6 + k.val, by have := k.isLt; show 6 + k.val < 14; omega⟩

/-- The units one of the eight buffers' transfers credits. -/
abbrev N : ℕ := (lkM : Memref sig .tc .vmem S2x8x64x128 .bf16).view.dmaCredit
theorem N_pos : 0 < N := View.dmaCredit_pos _ (by decide)

/-- A whole buffer of device `c`'s TensorCore held at `f`. -/
abbrev pt (c : Dev nD) (b : Ref sig .tc) (f : Buf (Elt F) ((c : Thread nD τ).loc b)) : sProp 𝕄 := ((c : Thread nD τ).loc b) ↦{fullShare} f
/-- The same at contents not named. -/
abbrev anyAt (c : Dev nD) (b : Ref sig .tc) : sProp 𝕄 := iprop(∃ f : Buf (Elt F) ((c : Thread nD τ).loc b), ((c : Thread nD τ).loc b) ↦{fullShare} f)

/-! ## What is sent -/

abbrev rAll : Rect S2x8x64x128 := Rect.unit (s := S2x8x64x128) ![0, 0, 0, 0] S2x8x64x128.size inb_S2x8x64x128_S2x8x64x128_0_0_0_0
abbrev rLo : Rect S2x8x64x512 := Rect.unit (s := S2x8x64x512) ![0, 0, 0, 0] S2x8x64x128.size inb_S2x8x64x512_S2x8x64x128_0_0_0_0
abbrev rHi : Rect S2x8x64x512 := Rect.unit (s := S2x8x64x512) ![0, 0, 0, 384] S2x8x64x128.size inb_S2x8x64x512_S2x8x64x128_0_0_0_384

/-! The keys and values every device has staged when the body starts: `kk`, `vv`. -/

variable (kk vv : Dev nD → Vec F S2x8x64x512 .f32)

/-- What device `c` stages: first columns' keys, first columns' values, last columns' keys, last columns' values. -/
def sv0 (c : Dev nD) : Vec F S2x8x64x128 .bf16 := k0_pay1 ((kM : Memref sig .tc .vmem S2x8x64x512 .f32).view.readAt (Elt F) rLo.toLoadRect (kk c))
def sv1 (c : Dev nD) : Vec F S2x8x64x128 .bf16 := k0_pay2 ((vM : Memref sig .tc .vmem S2x8x64x512 .f32).view.readAt (Elt F) rLo.toLoadRect (vv c))
def sv2 (c : Dev nD) : Vec F S2x8x64x128 .bf16 := k0_pay3 ((kM : Memref sig .tc .vmem S2x8x64x512 .f32).view.readAt (Elt F) rHi.toLoadRect (kk c))
def sv3 (c : Dev nD) : Vec F S2x8x64x128 .bf16 := k0_pay4 ((vM : Memref sig .tc .vmem S2x8x64x512 .f32).view.readAt (Elt F) rHi.toLoadRect (vv c))

/-! ## The schedule -/

/-- Paid to `c`'s barrier by the device after it: its left landing buffers, and that its receive cells 2 and 3 have
    reached their round. -/
def payNxt (c : Dev nD) : sProp 𝕄 :=
  iprop(anyAt (nxt c) cc0_scratch0 ∗ anyAt (nxt c) cc0_scratch1 ∗ reached ER (recvCell 2 (nxt c)) 0 ∗ reached ER (recvCell 3 (nxt c)) 0)
/-- Paid to `c`'s barrier by the device before it: its right landing buffers, and that its receive cells 0 and 1 have
    reached their round. -/
def payPrv (c : Dev nD) : sProp 𝕄 :=
  iprop(anyAt (prv c) cc0_scratch2 ∗ anyAt (prv c) cc0_scratch3 ∗ reached ER (recvCell 0 (prv c)) 0 ∗ reached ER (recvCell 1 (prv c)) 0)

/-- What a transfer's landing on a semaphore hands `c`. -/
def dmaPay (c : Dev nD) : ℕ → sProp 𝕄
  | 6 => pt c cc0_scratch4 (sv0 kk c)
  | 7 => pt c cc0_scratch5 (sv1 vv c)
  | 8 => pt c cc0_scratch6 (sv2 kk c)
  | 9 => pt c cc0_scratch7 (sv3 vv c)
  | 10 => pt c cc0_scratch2 (sv0 kk (nxt c))
  | 11 => pt c cc0_scratch3 (sv1 vv (nxt c))
  | 12 => pt c cc0_scratch0 (sv2 kk (prv c))
  | 13 => pt c cc0_scratch1 (sv3 vv (prv c))
  | _ => iprop(emp)

def payOf (c : Dev nD) (d : Bool) : SemLoc sig → sProp 𝕄
  | .reg _ => if d then payPrv c else payNxt c
  | .dma s => dmaPay kk vv c s.val

def dutiesOf : SemLoc sig → Finset Bool
  | .reg _ => {false, true}
  | .dma s => if 6 ≤ s.val then {false} else ∅

def amountOf : SemLoc sig → ℕ
  | .reg _ => 1
  | .dma _ => N

/-- One round on every cell. -/
def rd : Rounds.Schedule (GSem nD τ sig) Bool 𝕄 where
  duties g r := if r = 0 ∧ g.1.2 = .tc then dutiesOf g.2 else ∅
  unitless _ := False
  amount g _ _ := amountOf g.2
  payload g _ d := payOf kk vv g.1.1 d g.2
  amount_pos g _ _ _ := by
    rcases g.2 with s | s
    · exact Nat.one_pos
    · exact N_pos

instance dmaPay_storable (c : Dev nD) (n : ℕ) : BI.Storable (upEmb : UEmb _ 𝕄) (dmaPay kk vv c n) := by
  unfold dmaPay pt
  split <;> infer_instance
instance rd_payload_storable (g : GSem nD τ sig) (r : ℕ) (d : Bool) :
    BI.Storable (upEmb : UEmb _ 𝕄) ((rd (F := F) kk vv).payload g r d) := by
  show BI.Storable upEmb (payOf kk vv g.1.1 d g.2)
  unfold payOf payPrv payNxt
  (repeat' split) <;> infer_instance

section Sched

variable (c : Dev nD)

theorem duties_bar : (rd (F := F) kk vv).duties (barCell c) 0 = {false, true} := by
  dsimp only [rd]; exact if_pos ⟨rfl, rfl⟩
theorem duties_send (k : Fin 4) : (rd (F := F) kk vv).duties (sendCell k c) 0 = {false} := by
  dsimp only [rd]; rw [if_pos ⟨rfl, rfl⟩]; exact if_pos (show 6 ≤ 6 + k.val by omega)
theorem duties_recv (k : Fin 4) : (rd (F := F) kk vv).duties (recvCell k c) 0 = {false} := by
  dsimp only [rd]; rw [if_pos ⟨rfl, rfl⟩]; exact if_pos (show 6 ≤ 10 + k.val by omega)
theorem duties_later (g : GSem nD τ sig) : ∀ r, 1 ≤ r → (rd (F := F) kk vv).duties g r = ∅ :=
  fun r hr => by dsimp only [rd]; rw [if_neg (fun h => by omega)]

theorem amount_bar (d : Bool) : (rd (F := F) kk vv).amount (barCell c) 0 d = 1 := rfl
theorem amount_send (k : Fin 4) (d : Bool) : (rd (F := F) kk vv).amount (sendCell k c) 0 d = N := rfl
theorem amount_recv (k : Fin 4) (d : Bool) : (rd (F := F) kk vv).amount (recvCell k c) 0 d = N := rfl

theorem expect_bar : (rd (F := F) kk vv).expect (barCell c) 0 = 2 := by
  unfold Schedule.expect Schedule.amountOf; rw [duties_bar, Finset.sum_pair (by decide), amount_bar, amount_bar]
theorem expect_send (k : Fin 4) : (rd (F := F) kk vv).expect (sendCell k c) 0 = N := by
  unfold Schedule.expect Schedule.amountOf; rw [duties_send, Finset.sum_singleton, amount_send]
theorem expect_recv (k : Fin 4) : (rd (F := F) kk vv).expect (recvCell k c) 0 = N := by
  unfold Schedule.expect Schedule.amountOf; rw [duties_recv, Finset.sum_singleton, amount_recv]

theorem payload_bar_f : (rd (F := F) kk vv).payload (barCell c) 0 false = payNxt c := rfl
theorem payload_bar_t : (rd (F := F) kk vv).payload (barCell c) 0 true = payPrv c := rfl
theorem payload_send (k : Fin 4) (d : Bool) : (rd (F := F) kk vv).payload (sendCell k c) 0 d = dmaPay kk vv c (6 + k.val) := rfl
theorem payload_recv (k : Fin 4) (d : Bool) : (rd (F := F) kk vv).payload (recvCell k c) 0 d = dmaPay kk vv c (10 + k.val) := rfl

theorem rest_bar : bigSep ((rd (F := F) kk vv).duties (barCell c) 0 \ ∅) (fun d => (rd (F := F) kk vv).payload (barCell c) 0 d)
    = iprop(payNxt c ∗ payPrv c) := by
  rw [Finset.sdiff_empty, duties_bar, show ({false, true} : Finset Bool) = insert false {true} from rfl, bigSep_insert (by decide), bigSep_singleton, payload_bar_f, payload_bar_t]; rfl
theorem rest_send (k : Fin 4) : bigSep ((rd (F := F) kk vv).duties (sendCell k c) 0 \ ∅) (fun d => (rd (F := F) kk vv).payload (sendCell k c) 0 d)
    = dmaPay kk vv c (6 + k.val) := by
  rw [Finset.sdiff_empty, duties_send, bigSep_singleton, payload_send]
theorem rest_recv (k : Fin 4) : bigSep ((rd (F := F) kk vv).duties (recvCell k c) 0 \ ∅) (fun d => (rd (F := F) kk vv).payload (recvCell k c) 0 d)
    = dmaPay kk vv c (10 + k.val) := by
  rw [Finset.sdiff_empty, duties_recv, bigSep_singleton, payload_recv]

end Sched

/-! ## What each device owes at launch, and the levels -/

/-- The four transfers' landings on the neighbours' receive cells, the one sent first last. -/
abbrev T1 (c : Dev nD) : CellTallies nD τ sig Unit := tallyAt (recvCell 3 (nxt c)) () N
abbrev T2 (c : Dev nD) : CellTallies nD τ sig Unit := T1 c + tallyAt (recvCell 2 (nxt c)) () N
abbrev T3 (c : Dev nD) : CellTallies nD τ sig Unit := T2 c + tallyAt (recvCell 1 (prv c)) () N
abbrev T4 (c : Dev nD) : CellTallies nD τ sig Unit := T3 c + tallyAt (recvCell 0 (prv c)) () N
/-- With the two signals before them. -/
def O₀ (c : Dev nD) : CellTallies nD τ sig Unit := T4 c + tallyAt (barCell (nxt c)) () 1 + tallyAt (barCell (prv c)) () 1

def L (g : GSem nD τ sig) : Finset Unit := if g.1.2 = .tc then {()} else ∅
/-- Barrier cells at 1, receive cells at 2, the rest at 0. -/
def lvOf : SemLoc sig → ℕ
  | .reg _ => 1
  | .dma s => if 10 ≤ s.val then 2 else 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl
theorem lv_recv (k : Fin 4) (c : Dev nD) (u : Unit) : lv (recvCell k c) u = 2 := if_pos (show 10 ≤ 10 + k.val by omega)
theorem lv_bar (c : Dev nD) (u : Unit) : lv (barCell c) u = 1 := rfl

theorem tally_pos {g g' : GSem nD τ sig} {u : Unit} {n : ℕ} (h : 0 < (tallyAt g' () n : CellTallies nD τ sig Unit) g u) : g = g' := by
  rw [tallyAt_apply] at h
  by_cases h' : g = g' ∧ u = ()
  · exact h'.1
  · rw [if_neg h'] at h; exact absurd h (Nat.lt_irrefl 0)

theorem T4_pos {c : Dev nD} {g : GSem nD τ sig} {u : Unit} (h : 0 < T4 c g u) : ∃ k d, g = recvCell k d := by
  have h' : 0 < (tallyAt (recvCell 3 (nxt c)) () N : CellTallies nD τ sig Unit) g u + (tallyAt (recvCell 2 (nxt c)) () N : CellTallies nD τ sig Unit) g u
      + (tallyAt (recvCell 1 (prv c)) () N : CellTallies nD τ sig Unit) g u + (tallyAt (recvCell 0 (prv c)) () N : CellTallies nD τ sig Unit) g u := h
  rcases Nat.eq_zero_or_pos ((tallyAt (recvCell 3 (nxt c)) () N : CellTallies nD τ sig Unit) g u) with h3 | h3
  · rcases Nat.eq_zero_or_pos ((tallyAt (recvCell 2 (nxt c)) () N : CellTallies nD τ sig Unit) g u) with h2 | h2
    · rcases Nat.eq_zero_or_pos ((tallyAt (recvCell 1 (prv c)) () N : CellTallies nD τ sig Unit) g u) with h1 | h1
      · rw [h3, h2, h1] at h'
        exact ⟨0, prv c, tally_pos (by simpa only [Nat.zero_add] using h')⟩
      · exact ⟨1, prv c, tally_pos h1⟩
    · exact ⟨2, nxt c, tally_pos h2⟩
  · exact ⟨3, nxt c, tally_pos h3⟩

theorem O₀_pos {c : Dev nD} {g : GSem nD τ sig} {u : Unit} (h : 0 < O₀ c g u) : (∃ k d, g = recvCell k d) ∨ ∃ d, g = barCell d := by
  have h' : 0 < T4 c g u + (tallyAt (barCell (nxt c)) () 1 : CellTallies nD τ sig Unit) g u
      + (tallyAt (barCell (prv c)) () 1 : CellTallies nD τ sig Unit) g u := h
  rcases Nat.eq_zero_or_pos (T4 c g u) with h4 | h4
  · rcases Nat.eq_zero_or_pos ((tallyAt (barCell (nxt c)) () 1 : CellTallies nD τ sig Unit) g u) with h2 | h2
    · rw [h4, h2] at h'
      exact .inr ⟨prv c, tally_pos (by simpa only [Nat.zero_add] using h')⟩
    · exact .inr ⟨nxt c, tally_pos h2⟩
  · exact .inl (T4_pos h4)

/-- Waiting for the barrier while owing the four transfers: they land on cells above it. -/
theorem mayWait_bar (c : Dev nD) :
    (levAts L lv : sProp 𝕄) ⊢ MayWait (c : Thread nD τ) (.reg barS) () (T4 c) :=
  MayOwe.of_cut (L := L) (lev := lv) 1 (fun p hp => by rw [Finset.mem_singleton.mp hp, L_tc]; exact Finset.mem_singleton_self _)
    (fun g u hg => by obtain ⟨k, d, rfl⟩ := T4_pos hg; rw [L_tc]; exact Finset.mem_singleton_self _)
    (fun p hp => by rw [Finset.mem_singleton.mp hp]; exact le_of_eq (lv_bar c ()))
    (fun g u hg => by obtain ⟨k, d, rfl⟩ := T4_pos hg; rw [lv_recv]; decide)

/-! ## The ghost state -/

/-- The invariants device `c` opens, at the names the launch allocated them at. -/
def invs (K : GSem nD τ sig → ℕ) (c : Dev nD) : sProp 𝕄 :=
  iprop(cellInv ER (rd kk vv) (K (barCell c)) (barCell c)
    ∗ (cellInv ER (rd kk vv) (K (sendCell 0 c)) (sendCell 0 c) ∗ cellInv ER (rd kk vv) (K (sendCell 1 c)) (sendCell 1 c)
      ∗ cellInv ER (rd kk vv) (K (sendCell 2 c)) (sendCell 2 c) ∗ cellInv ER (rd kk vv) (K (sendCell 3 c)) (sendCell 3 c))
    ∗ (cellInv ER (rd kk vv) (K (recvCell 0 c)) (recvCell 0 c) ∗ cellInv ER (rd kk vv) (K (recvCell 1 c)) (recvCell 1 c)
      ∗ cellInv ER (rd kk vv) (K (recvCell 2 c)) (recvCell 2 c) ∗ cellInv ER (rd kk vv) (K (recvCell 3 c)) (recvCell 3 c))
    ∗ (cellInv ER (rd kk vv) (K (barCell (prv c))) (barCell (prv c)) ∗ cellInv ER (rd kk vv) (K (barCell (nxt c))) (barCell (nxt c)))
    ∗ (cellInv ER (rd kk vv) (K (recvCell 0 (prv c))) (recvCell 0 (prv c)) ∗ cellInv ER (rd kk vv) (K (recvCell 1 (prv c))) (recvCell 1 (prv c))
      ∗ cellInv ER (rd kk vv) (K (recvCell 2 (nxt c))) (recvCell 2 (nxt c)) ∗ cellInv ER (rd kk vv) (K (recvCell 3 (nxt c))) (recvCell 3 (nxt c))))

instance invs_persistent (K : GSem nD τ sig → ℕ) (c : Dev nD) : BI.Persistent (invs kk vv K c) := by unfold invs; infer_instance

/-- The ten duties device `c` pays. -/
def toks (c : Dev nD) : sProp 𝕄 :=
  iprop(dutyTok ER (barCell (prv c)) 0 false ∗ dutyTok ER (barCell (nxt c)) 0 true
    ∗ (dutyTok ER (recvCell 0 (prv c)) 0 false ∗ dutyTok ER (recvCell 1 (prv c)) 0 false
      ∗ dutyTok ER (recvCell 2 (nxt c)) 0 false ∗ dutyTok ER (recvCell 3 (nxt c)) 0 false)
    ∗ (dutyTok ER (sendCell 0 c) 0 false ∗ dutyTok ER (sendCell 1 c) 0 false ∗ dutyTok ER (sendCell 2 c) 0 false ∗ dutyTok ER (sendCell 3 c) 0 false))

/-- Something of each of the four send cells and of the four receive cells. -/
abbrev each (P : Dev nD → (Dev nD → GSem nD τ sig) → sProp 𝕄) (c : Dev nD) : sProp 𝕄 :=
  iprop((P c (sendCell 0) ∗ P c (sendCell 1) ∗ P c (sendCell 2) ∗ P c (sendCell 3))
    ∗ (P c (recvCell 0) ∗ P c (recvCell 1) ∗ P c (recvCell 2) ∗ P c (recvCell 3)))

/-- What rides from the launch to the kernel: the names, the position on the barrier, the rights to open the own eight
    cells, that both neighbours' barriers have reached their round, and the duties' tokens. -/
def ghost (K : GSem nD τ sig → ℕ) (c : Dev nD) : sProp 𝕄 :=
  iprop(invs kk vv K c ∗ atPos ER (barCell c) 0 ∅ 0 ∗ each (fun c g => openTok ER (g c)) c
    ∗ (reached ER (barCell (prv c)) 0 ∗ reached ER (barCell (nxt c)) 0) ∗ toks c)

/-- The units device `c` waits for that it is not credited by its own sends. -/
def creds (c : Dev nD) : sProp 𝕄 :=
  iprop(cred (tallyAt (barCell c) () 2) ∗ (cred (tallyAt (recvCell 0 c) () N) ∗ cred (tallyAt (recvCell 1 c) () N)
    ∗ cred (tallyAt (recvCell 2 c) () N) ∗ cred (tallyAt (recvCell 3 c) () N)))

/-- After the own eight cells are opened. -/
def opened (K : GSem nD τ sig → ℕ) (c : Dev nD) : sProp 𝕄 :=
  iprop(invs kk vv K c ∗ atPos ER (barCell c) 0 ∅ 0 ∗ each (fun c g => atPos ER (g c) 0 ∅ 0) c
    ∗ (reached ER (barCell (prv c)) 0 ∗ reached ER (barCell (nxt c)) 0) ∗ each (fun c g => reached ER (g c) 0) c ∗ toks c)

theorem close (κ : ℕ) (g : GSem nD τ sig) :
    iprop(cellInv ER (rd kk vv) κ g ∗ atPos ER g (0 + 1) ∅ 0) ⊢ (|={Set.univ}=> semVal g 0 : sProp 𝕄) :=
  Rounds.cell_close ER (rd kk vv) (Set.mem_univ κ) id (duties_later kk vv g)

abbrev 𝒱₀ : Variants := Variants.none

end Cert.Halo

end
-- ==== Proof.Values.lean ====
/-
What the body computes, written once for any float values: one head's attention of 128 query rows over a window of
384 key columns, the three kinds of windows (inside the device's own columns, across its left edge, across its right
edge), and one block of the result, the eight heads side by side times the output weights.
-/
module

public import proofs.«01_k».proof.Proof.Gen.KernelIdeal.Skeleton

@[expose] public section

noncomputable section

namespace Cert.Halo

open Cert.KernelIdeal Cert.KernelIdeal.Gen
open Idealize.ShloMosaic

variable {F : FTy → Type} [FloatOps F] [Named F]

/-- Scores, times an eighth. -/
def scores (q : FVec F S128x64 .f32) (k : FVec F S64x384 .f32) : FVec F S128x384 .f32 :=
  mulf (matmul dot_S128x64_S64x384_S128x384_1_0_0_1_n_n none q k (constant S128x384 .f32 0x00000000#32))
    (broadcast S128x384 (Scalar.ofBits .f32 0x3E000000#32))
/-- The weights before they are divided by their sum. -/
def weights (mask : IVec S128x384 1) (q : FVec F S128x64 .f32) (k : FVec F S64x384 .f32) : FVec F S128x384 .f32 :=
  exp (select mask (scores q k) (broadcast S128x384 (Named.named κ "mask" 0xCE6E6B28#32)))
/-- One head's attention over one window. -/
def att (mask : IVec S128x384 1) (q : FVec F S128x64 .f32) (k v : FVec F S64x384 .f32) : FVec F S128x64 .f32 :=
  divf (matmul dot_S128x384_S64x384_S128x64_1_1_0_0_n_n none (weights mask q k) v (constant S128x64 .f32 0x00000000#32))
    (broadcastTo S128x64 (shapeCast S128x1 (multiReduction .add [1] S128 (weights mask q k) 0x00000000#32 reduces_S128x384_S128 (.inl rfl) rfl) shapeCasts_S128_S128x1)
      broadcasts_S128x1_S128x64)

/-! ## Where the operands are cut from -/

theorem qSlices (b : Fin 2) (n : Fin 4) (h : Fin 8) : S1024x512.Slices ![512 * b.val + 128 * n.val, 64 * h.val] S128x64 := by
  revert b n h; decide
theorem kSlices (b : Fin 2) (h : Fin 8) (n : Fin 2) : S2x8x64x512.Slices ![b.val, h.val, 0, 128 * n.val] S1x1x64x384 := by
  revert b n h; decide
theorem eSlices (b : Fin 2) (h : Fin 8) (n : Fin 2) : S2x8x64x512.Slices ![b.val, h.val, 0, 256 * n.val] S1x1x64x256 := by
  revert b n h; decide
theorem hSlices (b : Fin 2) (h : Fin 8) : S2x8x64x128.Slices ![b.val, h.val, 0, 0] S1x1x64x128 := by
  revert b h; decide

/-- Query rows: batch `b`, block `n`, head `h`. -/
def qAt (q : FVec F S1024x512 .f32) (b : Fin 2) (n : Fin 4) (h : Fin 8) : FVec F S128x64 .f32 :=
  extractStridedSlice S128x64 ![512 * b.val + 128 * n.val, 64 * h.val] q (qSlices b n h)
/-- A window inside the device's own columns, from column `128 * n`. -/
def winMid (k : FVec F S2x8x64x512 .f32) (b : Fin 2) (n : Fin 2) (h : Fin 8) : FVec F S64x384 .f32 :=
  shapeCast S64x384 (extractStridedSlice S1x1x64x384 ![b.val, h.val, 0, 128 * n.val] k (kSlices b h n)) shapeCasts_S1x1x64x384_S64x384
def edge (k : FVec F S2x8x64x512 .f32) (b : Fin 2) (n : Fin 2) (h : Fin 8) : FVec F S64x256 .f32 :=
  shapeCast S64x256 (extractStridedSlice S1x1x64x256 ![b.val, h.val, 0, 256 * n.val] k (eSlices b h n)) shapeCasts_S1x1x64x256_S64x256
def halo (l : FVec F S2x8x64x128 .f32) (b : Fin 2) (h : Fin 8) : FVec F S64x128 .f32 :=
  shapeCast S64x128 (extractStridedSlice S1x1x64x128 ![b.val, h.val, 0, 0] l (hSlices b h)) shapeCasts_S1x1x64x128_S64x128
/-- The window across the left edge: the columns received from the device before, then the first 256 own ones. -/
def winLo (k : FVec F S2x8x64x512 .f32) (l : FVec F S2x8x64x128 .f32) (b : Fin 2) (h : Fin 8) : FVec F S64x384 .f32 :=
  concatenate S64x384 1 [⟨S64x128, halo l b h⟩, ⟨S64x256, edge k b 0 h⟩] concatenates_S64x128_S64x256_S64x384_d1
/-- The window across the right edge: the last 256 own columns, then those received from the device after. -/
def winHi (k : FVec F S2x8x64x512 .f32) (r : FVec F S2x8x64x128 .f32) (b : Fin 2) (h : Fin 8) : FVec F S64x384 .f32 :=
  concatenate S64x384 1 [⟨S64x256, edge k b 1 h⟩, ⟨S64x128, halo r b h⟩] concatenates_S64x256_S64x128_S64x384_d1

/-- Window columns, one per element. -/
def cols : IVec S128x384 32 := iota .tc S128x384 32 [1] iota_S128x384_d1_w32
/-- The band: a query and a key at most 128 apart. -/
def band : IVec S128x384 1 := k0_pay6
/-- At the left edge also a column of the device's own, or a device before it on the line. -/
def maskLo (my : BitVec 32) : IVec S128x384 1 :=
  andi band (ori (cmpi .sge cols (broadcast S128x384 128#32)) (broadcast S128x384 (Scalar.cmpi .sgt my 0#32)))
/-- At the right edge also a column of the device's own, or a device after it on the line. -/
def maskHi (my : BitVec 32) : IVec S128x384 1 :=
  andi band (ori (cmpi .slt cols (broadcast S128x384 256#32)) (broadcast S128x384 (Scalar.cmpi .slt my 3#32)))

/-- The eight heads side by side, times the output weights. -/
def project (f : Fin 8 → FVec F S128x64 .f32) (wo : FVec F S512x768 .f32) : FVec F S1x128x768 .f32 :=
  shapeCast S1x128x768
    (matmul dot_S128x512_S512x768_S128x768_1_0_0_1_n_n none
      (concatenate S128x512 1 [⟨S128x64, f 0⟩, ⟨S128x64, f 1⟩, ⟨S128x64, f 2⟩, ⟨S128x64, f 3⟩, ⟨S128x64, f 4⟩, ⟨S128x64, f 5⟩, ⟨S128x64, f 6⟩, ⟨S128x64, f 7⟩]
        concatenates_S128x64_S128x64_S128x64_S128x64_S128x64_S128x64_S128x64_S128x64_S128x512_d1)
      wo (constant S128x768 .f32 0x00000000#32)) shapeCasts_S128x768_S1x128x768

/-- The block of rows `128 * (n + 1)` on, whose window lies inside. -/
def blkMid (q : FVec F S1024x512 .f32) (k v : FVec F S2x8x64x512 .f32) (wo : FVec F S512x768 .f32) (b : Fin 2) (n : Fin 2) : FVec F S1x128x768 .f32 :=
  project (fun h => att band (qAt q b ⟨n.val + 1, by omega⟩ h) (winMid k b n h) (winMid v b n h)) wo
/-- The first block of rows. -/
def blkLo (my : BitVec 32) (q : FVec F S1024x512 .f32) (k v : FVec F S2x8x64x512 .f32) (lk lv : FVec F S2x8x64x128 .f32) (wo : FVec F S512x768 .f32) (b : Fin 2) : FVec F S1x128x768 .f32 :=
  project (fun h => att (maskLo my) (qAt q b 0 h) (winLo k lk b h) (winLo v lv b h)) wo
/-- The last block of rows. -/
def blkHi (my : BitVec 32) (q : FVec F S1024x512 .f32) (k v : FVec F S2x8x64x512 .f32) (rk rv : FVec F S2x8x64x128 .f32) (wo : FVec F S512x768 .f32) (b : Fin 2) : FVec F S1x128x768 .f32 :=
  project (fun h => att (maskHi my) (qAt q b 3 h) (winHi k rk b h) (winHi v rv b h)) wo

/-! ## The device's result -/

/-- Which of the four a device is, as the kernel works it out. -/
def my (c : Dev nD) : BitVec 32 := Scalar.remsi (Scalar.divsi (Dev.word c) 1#32) 4#32

theorem oInb (b : Fin 2) (n : Fin 4) : ∀ a, (![b.val, 128 * n.val, 0] : Fin 3 → Nat) a + S1x128x768.size a ≤ S2x512x768.size a := by
  revert b n; decide
/-- Where block `n` of batch `b` goes. -/
abbrev outR (b : Fin 2) (n : Fin 4) : Rect S2x512x768 := Rect.unit (s := S2x512x768) ![b.val, 128 * n.val, 0] S1x128x768.size (oInb b n)
/-- The result with one block replaced. -/
def put (b : Fin 2) (n : Fin 4) (w : FVec F S1x128x768 .f32) (f : Vec F S2x512x768 .f32) : Vec F S2x512x768 .f32 :=
  ((Memref.whole cc0_stg5_0 : Memref sig .tc .vmem S2x512x768 .f32).access (outR b n)).write (Elt F) f w Finset.univ

/-- The whole result of device `c`, from its five operands and the four landed buffers. -/
def outV (c : Dev nD) (x : Vec F S2x512x768 .f32) (wq : Vec F S768x512 .f32) (k v : Vec F S2x8x64x512 .f32) (wo : Vec F S512x768 .f32)
    (lk lv rk rv : Vec F S2x8x64x128 .bf16) (f : Vec F S2x512x768 .f32) : Vec F S2x512x768 .f32 :=
  put 1 3 (blkHi (my c) (k0_pay5 x wq) (k0_pay7 k) (k0_pay8 v) (extf .f32 rk bitsLt_bf16_f32) (extf .f32 rv bitsLt_bf16_f32) (k0_pay9 wo) 1)
    (put 0 3 (blkHi (my c) (k0_pay5 x wq) (k0_pay7 k) (k0_pay8 v) (extf .f32 rk bitsLt_bf16_f32) (extf .f32 rv bitsLt_bf16_f32) (k0_pay9 wo) 0)
      (put 1 0 (blkLo (my c) (k0_pay5 x wq) (k0_pay7 k) (k0_pay8 v) (extf .f32 lk bitsLt_bf16_f32) (extf .f32 lv bitsLt_bf16_f32) (k0_pay9 wo) 1)
        (put 0 0 (blkLo (my c) (k0_pay5 x wq) (k0_pay7 k) (k0_pay8 v) (extf .f32 lk bitsLt_bf16_f32) (extf .f32 lv bitsLt_bf16_f32) (k0_pay9 wo) 0)
          (put 1 2 (blkMid (k0_pay5 x wq) (k0_pay7 k) (k0_pay8 v) (k0_pay9 wo) 1 1)
            (put 1 1 (blkMid (k0_pay5 x wq) (k0_pay7 k) (k0_pay8 v) (k0_pay9 wo) 1 0)
              (put 0 2 (blkMid (k0_pay5 x wq) (k0_pay7 k) (k0_pay8 v) (k0_pay9 wo) 0 1)
                (put 0 1 (blkMid (k0_pay5 x wq) (k0_pay7 k) (k0_pay8 v) (k0_pay9 wo) 0 0) f)))))))

end Cert.Halo

end
-- ==== Proof.Steps.lean ====
/-
The steps the kernel's body takes, each as one rule: a load, a store, a transfer to a neighbour, a wait on a receive
cell and on a send cell; and what a device holds before and after the body.
-/
module

public import proofs.«01_k».proof.Proof.Proto
public import proofs.«01_k».proof.Proof.Values

@[expose] public section

noncomputable section

namespace Cert.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (kk vv : Dev nD → Vec F S2x8x64x512 .f32)

theorem z4 : (![0, 0, 0, 0] : Fin 4 → Nat) = fun _ => 0 := by decide
theorem z3 : (![0, 0, 0] : Fin 3 → Nat) = fun _ => 0 := by decide
theorem z2 : (![0, 0] : Fin 2 → Nat) = fun _ => 0 := by decide

/-! The semaphores the body picks out of its two arrays, and the units of each buffer's transfers. -/

theorem semS0 : ((SemArray.slice cc0_scratch8 (Rect.unit ![0] ![1] inb_S4_S1_0)).squeeze S_ squeezes_S1_S_).sem = sendS 0 := rfl
theorem semR0 : ((SemArray.slice cc0_scratch9 (Rect.unit ![0] ![1] inb_S4_S1_0)).squeeze S_ squeezes_S1_S_).sem = recvS 0 := rfl
theorem semS1 : ((SemArray.slice cc0_scratch8 (Rect.unit ![1] ![1] inb_S4_S1_1)).squeeze S_ squeezes_S1_S_).sem = sendS 1 := rfl
theorem semR1 : ((SemArray.slice cc0_scratch9 (Rect.unit ![1] ![1] inb_S4_S1_1)).squeeze S_ squeezes_S1_S_).sem = recvS 1 := rfl
theorem semS2 : ((SemArray.slice cc0_scratch8 (Rect.unit ![2] ![1] inb_S4_S1_2)).squeeze S_ squeezes_S1_S_).sem = sendS 2 := rfl
theorem semR2 : ((SemArray.slice cc0_scratch9 (Rect.unit ![2] ![1] inb_S4_S1_2)).squeeze S_ squeezes_S1_S_).sem = recvS 2 := rfl
theorem semS3 : ((SemArray.slice cc0_scratch8 (Rect.unit ![3] ![1] inb_S4_S1_3)).squeeze S_ squeezes_S1_S_).sem = sendS 3 := rfl
theorem semR3 : ((SemArray.slice cc0_scratch9 (Rect.unit ![3] ![1] inb_S4_S1_3)).squeeze S_ squeezes_S1_S_).sem = recvS 3 := rfl
theorem credit_lkM : lkM.view.dmaCredit = N := rfl
theorem credit_lvM : lvM.view.dmaCredit = N := rfl
theorem credit_rkM : rkM.view.dmaCredit = N := rfl
theorem credit_rvM : rvM.view.dmaCredit = N := rfl
theorem credit_s0M : s0M.view.dmaCredit = N := rfl
theorem credit_s1M : s1M.view.dmaCredit = N := rfl
theorem credit_s2M : s2M.view.dmaCredit = N := rfl
theorem credit_s3M : s3M.view.dmaCredit = N := rfl
theorem amt_lkM (k : Fin 4) : lkM.view.amount (.dma (recvS k)) = N := rfl
theorem amt_lvM (k : Fin 4) : lvM.view.amount (.dma (recvS k)) = N := rfl
theorem amt_rkM (k : Fin 4) : rkM.view.amount (.dma (recvS k)) = N := rfl
theorem amt_rvM (k : Fin 4) : rvM.view.amount (.dma (recvS k)) = N := rfl
theorem set_lkM : lkM.view.set = Finset.univ := View.set_whole cc0_scratch0
theorem set_lvM : lvM.view.set = Finset.univ := View.set_whole cc0_scratch1
theorem set_rkM : rkM.view.set = Finset.univ := View.set_whole cc0_scratch2
theorem set_rvM : rvM.view.set = Finset.univ := View.set_whole cc0_scratch3
theorem set_s0M : s0M.view.set = Finset.univ := View.set_whole cc0_scratch4
theorem set_s1M : s1M.view.set = Finset.univ := View.set_whole cc0_scratch5
theorem set_s2M : s2M.view.set = Finset.univ := View.set_whole cc0_scratch6
theorem set_s3M : s3M.view.set = Finset.univ := View.set_whole cc0_scratch7

/-! Reading a whole buffer is reading its contents. -/

theorem read_xM (f : Vec F S2x512x768 .f32) : xM.view.readAt (Elt F) (Rect.unit (s := S2x512x768) ![0, 0, 0] ![2, 512, 768] inb_S2x512x768_S2x512x768_0_0_0).toLoadRect f = f :=
  Memref.readAt_unit_zero (Elt F) cc0_stg0_0 z3 _ f
theorem read_wqM (f : Vec F S768x512 .f32) : wqM.view.readAt (Elt F) (Rect.unit (s := S768x512) ![0, 0] ![768, 512] inb_S768x512_S768x512_0_0).toLoadRect f = f :=
  Memref.readAt_unit_zero (Elt F) cc0_stg1_0 z2 _ f
theorem read_kM (f : Vec F S2x8x64x512 .f32) : kM.view.readAt (Elt F) (Rect.unit (s := S2x8x64x512) ![0, 0, 0, 0] ![2, 8, 64, 512] inb_S2x8x64x512_S2x8x64x512_0_0_0_0).toLoadRect f = f :=
  Memref.readAt_unit_zero (Elt F) cc0_stg2_0 z4 _ f
theorem read_vM (f : Vec F S2x8x64x512 .f32) : vM.view.readAt (Elt F) (Rect.unit (s := S2x8x64x512) ![0, 0, 0, 0] ![2, 8, 64, 512] inb_S2x8x64x512_S2x8x64x512_0_0_0_0).toLoadRect f = f :=
  Memref.readAt_unit_zero (Elt F) cc0_stg3_0 z4 _ f
theorem read_woM (f : Vec F S512x768 .f32) : woM.view.readAt (Elt F) (Rect.unit (s := S512x768) ![0, 0] ![512, 768] inb_S512x768_S512x768_0_0).toLoadRect f = f :=
  Memref.readAt_unit_zero (Elt F) cc0_stg4_0 z2 _ f
theorem read_lkM (f : Vec F S2x8x64x128 .bf16) : lkM.view.readAt (Elt F) (Rect.unit (s := S2x8x64x128) ![0, 0, 0, 0] ![2, 8, 64, 128] inb_S2x8x64x128_S2x8x64x128_0_0_0_0).toLoadRect f = f :=
  Memref.readAt_unit_zero (Elt F) cc0_scratch0 z4 _ f
theorem read_lvM (f : Vec F S2x8x64x128 .bf16) : lvM.view.readAt (Elt F) (Rect.unit (s := S2x8x64x128) ![0, 0, 0, 0] ![2, 8, 64, 128] inb_S2x8x64x128_S2x8x64x128_0_0_0_0).toLoadRect f = f :=
  Memref.readAt_unit_zero (Elt F) cc0_scratch1 z4 _ f
theorem read_rkM (f : Vec F S2x8x64x128 .bf16) : rkM.view.readAt (Elt F) (Rect.unit (s := S2x8x64x128) ![0, 0, 0, 0] ![2, 8, 64, 128] inb_S2x8x64x128_S2x8x64x128_0_0_0_0).toLoadRect f = f :=
  Memref.readAt_unit_zero (Elt F) cc0_scratch2 z4 _ f
theorem read_rvM (f : Vec F S2x8x64x128 .bf16) : rvM.view.readAt (Elt F) (Rect.unit (s := S2x8x64x128) ![0, 0, 0, 0] ![2, 8, 64, 128] inb_S2x8x64x128_S2x8x64x128_0_0_0_0).toLoadRect f = f :=
  Memref.readAt_unit_zero (Elt F) cc0_scratch3 z4 _ f

/-- What one device holds when its body starts. -/
def pre (K : GSem nD τ sig → ℕ) (c : Dev nD) (W : Waits sig Unit) (x : Vec F S2x512x768 .f32) (wq : Vec F S768x512 .f32) (wo : Vec F S512x768 .f32)
    (f : Vec F S2x512x768 .f32) : sProp 𝕄 :=
  iprop(opened kk vv K c ∗ creds c ∗ levAts L lv ∗ owes (c : Thread nD τ) (O₀ c) W
    ∗ (pt c cc0_stg0_0 x ∗ pt c cc0_stg1_0 wq ∗ pt c cc0_stg2_0 (kk c) ∗ pt c cc0_stg3_0 (vv c) ∗ pt c cc0_stg4_0 wo ∗ pt c cc0_stg5_0 f)
    ∗ (anyAt c cc0_scratch0 ∗ anyAt c cc0_scratch1 ∗ anyAt c cc0_scratch2 ∗ anyAt c cc0_scratch3
      ∗ anyAt c cc0_scratch4 ∗ anyAt c cc0_scratch5 ∗ anyAt c cc0_scratch6 ∗ anyAt c cc0_scratch7))

/-- And when it returns. -/
def post (c : Dev nD) (x : Vec F S2x512x768 .f32) (wq : Vec F S768x512 .f32) (wo : Vec F S512x768 .f32)
    (f : Vec F S2x512x768 .f32) : sProp 𝕄 :=
  iprop(semVal (barCell c) 0 ∗ each (fun c g => semVal (g c) 0) c
    ∗ (pt c cc0_stg0_0 x ∗ pt c cc0_stg1_0 wq ∗ pt c cc0_stg2_0 (kk c) ∗ pt c cc0_stg3_0 (vv c) ∗ pt c cc0_stg4_0 wo
      ∗ pt c cc0_stg5_0 (outV c x wq (kk c) (vv c) wo (sv2 kk (prv c)) (sv3 vv (prv c)) (sv0 kk (nxt c)) (sv1 vv (nxt c)) f))
    ∗ (anyAt c cc0_scratch0 ∗ anyAt c cc0_scratch1 ∗ anyAt c cc0_scratch2 ∗ anyAt c cc0_scratch3
      ∗ anyAt c cc0_scratch4 ∗ anyAt c cc0_scratch5 ∗ anyAt c cc0_scratch6 ∗ anyAt c cc0_scratch7)
    ∗ ∃ W', owes (c : Thread nD τ) (0 : CellTallies nD τ sig Unit) W')

section Steps

variable {α : Type}

/-- Loading from a buffer held. -/
theorem ld (Q : α → sProp 𝕄) (c : Dev nD) {cs : CoreSpace} {s : Shape} {e : EltTy} (m : Memref sig .tc cs s e) {r : LoadRect s} {hl : m.view.LoadsAt r}
    {p : (r.shape.Idx → Elt F e) → Prog (TpuEff nD τ sig (Elt F) Λ₀ .tc) α} (f : Buf (Elt F) (m.view.loc (c : Thread nD τ))) :
    (m.view.loc (c : Thread nD τ) ↦{fullShare} f)
      ⊢ iprop(((m.view.loc (c : Thread nD τ) ↦{fullShare} f) -∗ wp frame (wpE (defs₀ (F := F)) 𝒱₀ (c : Thread nD τ) none) Set.univ (p (m.view.readAt (Elt F) r f)) Q)
      -∗ wp frame (wpE (defs₀ (F := F)) 𝒱₀ (c : Thread nD τ) none) Set.univ (.op (.load m r hl) p) Q) :=
  wp_load 𝒱₀ (c : Thread nD τ) none Set.univ (m := m) (Finset.subset_univ _)

/-- Storing through a rectangle of a buffer held. -/
theorem st (Q : α → sProp 𝕄) (c : Dev nD) {cs : CoreSpace} {s : Shape} {e : EltTy} (m : Memref sig .tc cs s e) {r : Rect s} {w : r.shape.Idx → Elt F e}
    {hx : (m.access r).Stores Finset.univ} {hm : (Finset.univ : Finset r.shape.Idx) = Finset.univ ∨ ∀ a, r.stride a = 1}
    {p : PUnit → Prog (TpuEff nD τ sig (Elt F) Λ₀ .tc) α} (f : Buf (Elt F) (m.view.loc (c : Thread nD τ))) :
    (m.view.loc (c : Thread nD τ) ↦{fullShare} f)
      ⊢ iprop(((m.view.loc (c : Thread nD τ) ↦{fullShare} ((m.access r).write (Elt F) f w Finset.univ)) -∗ wp frame (wpE (defs₀ (F := F)) 𝒱₀ (c : Thread nD τ) none) Set.univ (p ⟨⟩) Q)
      -∗ wp frame (wpE (defs₀ (F := F)) 𝒱₀ (c : Thread nD τ) none) Set.univ (.op (.store m r w Finset.univ hx hm) p) Q) :=
  wp_store (defs := defs₀ (F := F)) 𝒱₀ (c : Thread nD τ) none Set.univ (m := m) (r := r) (w := w) (Mk := Finset.univ) (hx := hx) (hm := hm) (k := p) (S := Finset.univ) (f := f) (Finset.subset_univ _)

/-- A transfer from a whole buffer of `c` to a whole one of `d`, paying the send cell's duty and the receive cell's. -/
theorem send (Q : α → sProp 𝕄) (κ₁ κ₂ : ℕ) (k : Fin 4) (c d d' : Dev nD) (hdev : d' = d) (src dst : Memref sig .tc .vmem S2x8x64x128 .bf16)
    (hs : src.view.set = Finset.univ) (hd : dst.view.set = Finset.univ) (hN : dst.view.amount (.dma (recvS k)) = N)
    {hsc : dst.view.ref.isScScratch = false} {hsrc : src.view.WordExact} {hdst : dst.view.WordExact}
    {hsem : DmaTarget.Typed .vmem (.dma (recvS k)) (.remote (d' : Thread nD τ) dst (.dma (sendS k)) hsc)}
    (fs : Buf (Elt F) (src.view.loc (c : Thread nD τ))) (fd : Buf (Elt F) (dst.view.loc (d : Thread nD τ)))
    (h₁ : (src.view.loc (c : Thread nD τ) ↦{fullShare} fs : sProp 𝕄) ⊢ (rd kk vv).payload (sendCell k c) 0 false)
    (h₂ : (dst.view.loc (d : Thread nD τ) ↦{fullShare} (dst.view.write (Elt F) fd (src.view.read (Elt F) fs) Finset.univ) : sProp 𝕄) ⊢ (rd kk vv).payload (recvCell k d) 0 false)
    (O : CellTallies nD τ sig Unit) (W : Waits sig Unit) {p : PUnit → Prog (TpuEff nD τ sig (Elt F) Λ₀ .tc) α} :
    iprop(cellInv ER (rd kk vv) κ₁ (sendCell k c) ∗ cellInv ER (rd kk vv) κ₂ (recvCell k d)
        ∗ (src.view.loc (c : Thread nD τ) ↦{fullShare} fs) ∗ (dst.view.loc (d : Thread nD τ) ↦{fullShare} fd)
        ∗ owes (c : Thread nD τ) (O + tallyAt (recvCell k d) () N) W
        ∗ dutyTok ER (sendCell k c) 0 false ∗ reached ER (sendCell k c) 0 ∗ dutyTok ER (recvCell k d) 0 false ∗ reached ER (recvCell k d) 0)
      ⊢ iprop(((cred (tallyAt (sendCell k c) () N) ∗ owes (c : Thread nD τ) O W) -∗ wp frame (wpE (defs₀ (F := F)) 𝒱₀ (c : Thread nD τ) none) Set.univ (p ⟨⟩) Q)
          -∗ wp frame (wpE (defs₀ (F := F)) 𝒱₀ (c : Thread nD τ) none) Set.univ
            (.op (.enqueueDma src (.remote (d' : Thread nD τ) dst (.dma (sendS k)) hsc) (.dma (recvS k)) hsrc hdst hsem) p) Q) := by
  subst d'
  have e₁ : (src.view.loc (c : Thread nD τ) ↦{fullShare} fs : sProp 𝕄) = (src.view.loc (c : Thread nD τ) ↦[src.view.set]{fullShare} fs) := by rw [hs]
  have e₂ : ∀ f, (dst.view.loc (d : Thread nD τ) ↦{fullShare} f : sProp 𝕄) = (dst.view.loc (d : Thread nD τ) ↦[dst.view.set]{fullShare} f) := fun f => by rw [hd]
  rw [e₁] at h₁ ⊢
  rw [e₂] at h₂ ⊢
  exact Rounds.wp_send_pointsTo (defs := defs₀ (F := F)) 𝒱₀ ER (rd kk vv) (c : Thread nD τ) none
      (by rw [duties_send]; exact Finset.mem_singleton_self _) (by rw [duties_recv]; exact Finset.mem_singleton_self _)
      () () N hN (amount_send kk vv c k false) (amount_recv kk vv d k false) O rfl h₁ h₂

/-- Waiting for all of a receive cell's round, owing nothing. -/
theorem wait_recv (Q : α → sProp 𝕄) (κ : ℕ) (k : Fin 4) (c : Dev nD) (W : Waits sig Unit) {sp sp' : Space} {s s' : Shape} {e e' : EltTy} {src : Memref sig .tc sp' s' e'} {dst : Memref sig .tc sp s e}
    {h1 : src.view.WordExact} {h2 : dst.view.WordExact} (hN : dst.view.dmaCredit = N)
    {p : PUnit → Prog (TpuEff nD τ sig (Elt F) Λ₀ .tc) α} :
    iprop(cellInv ER (rd kk vv) κ (recvCell k c) ∗ cred (tallyAt (recvCell k c) () N) ∗ owes (c : Thread nD τ) 0 W ∗ atPos ER (recvCell k c) 0 ∅ 0)
      ⊢ iprop(((owes (c : Thread nD τ) 0 (insert (.dma (recvS k), ()) W) ∗ atPos ER (recvCell k c) (0 + 1) ∅ 0 ∗ dmaPay kk vv c (10 + k.val))
            -∗ wp frame (wpE (defs₀ (F := F)) 𝒱₀ (c : Thread nD τ) none) Set.univ (p ⟨⟩) Q)
          -∗ wp frame (wpE (defs₀ (F := F)) 𝒱₀ (c : Thread nD τ) none) Set.univ (.op (.waitDma2 (recvS k) src dst h1 h2) p) Q) := by
  iintro ⟨#HI, Hc, HO, Hat⟩ Hk
  iapply (Rounds.wp_wait_rest_token 𝒱₀ ER (rd kk vv) (c : Thread nD τ) none (κ := κ) (fun Kt => (wpE_waitDma2_eq (src := src) (dst := dst) 𝒱₀ (c : Thread nD τ) none Set.univ Kt).trans (by rw [hN])) (Set.mem_univ _) () (O := 0) (W := W) (R := 0) (m := 0) (T := ∅)
      ((Nat.zero_add _).trans (expect_recv kk vv c k).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv kk vv c k)) $$ Hpay
  iapply Hk
  isplitl [HO]; · iexact HO
  isplitl [Hat]; · iexact Hat
  iexact Hp

/-- Waiting for all of a send cell's round, owing nothing. -/
theorem wait_send (Q : α → sProp 𝕄) (κ : ℕ) (k : Fin 4) (c : Dev nD) (W : Waits sig Unit) {sp sp' : Space} {s s' : Shape} {e e' : EltTy} {src : Memref sig .tc sp' s' e'} {dst : Memref sig .tc sp s e}
    {h1 : src.view.WordExact} {h2 : dst.view.WordExact} (hN : dst.view.dmaCredit = N)
    {p : PUnit → Prog (TpuEff nD τ sig (Elt F) Λ₀ .tc) α} :
    iprop(cellInv ER (rd kk vv) κ (sendCell k c) ∗ cred (tallyAt (sendCell k c) () N) ∗ owes (c : Thread nD τ) 0 W ∗ atPos ER (sendCell k c) 0 ∅ 0)
      ⊢ iprop(((owes (c : Thread nD τ) 0 (insert (.dma (sendS k), ()) W) ∗ atPos ER (sendCell k c) (0 + 1) ∅ 0 ∗ dmaPay kk vv c (6 + k.val))
            -∗ wp frame (wpE (defs₀ (F := F)) 𝒱₀ (c : Thread nD τ) none) Set.univ (p ⟨⟩) Q)
          -∗ wp frame (wpE (defs₀ (F := F)) 𝒱₀ (c : Thread nD τ) none) Set.univ (.op (.waitDma2 (sendS k) src dst h1 h2) p) Q) := by
  iintro ⟨#HI, Hc, HO, Hat⟩ Hk
  iapply (Rounds.wp_wait_rest_token 𝒱₀ ER (rd kk vv) (c : Thread nD τ) none (κ := κ) (fun Kt => (wpE_waitDma2_eq (src := src) (dst := dst) 𝒱₀ (c : Thread nD τ) none Set.univ Kt).trans (by rw [hN])) (Set.mem_univ _) () (O := 0) (W := W) (R := 0) (m := 0) (T := ∅)
      ((Nat.zero_add _).trans (expect_send kk vv c k).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send kk vv c k)) $$ Hpay
  iapply Hk
  isplitl [HO]; · iexact HO
  isplitl [Hat]; · iexact Hat
  iexact Hp

end Steps

/-! Each staging buffer after it is written over whole, what its transfer's send side hands back, and what its landing hands over. -/

theorem staged0 (c : Dev nD) (f : Vec F S2x8x64x128 .bf16) :
    ((s0M.view.loc (c : Thread nD τ)) ↦{fullShare} ((s0M.access rAll).write (Elt F) f (sv0 kk c) Finset.univ) : sProp 𝕄) ⊢ pt c cc0_scratch4 (sv0 kk c) :=
  Entails.of_eq (congrArg (pt c cc0_scratch4) (Memref.write_access_unit_zero_univ (Elt F) cc0_scratch4 z4 _ f (sv0 kk c)))
theorem staged1 (c : Dev nD) (f : Vec F S2x8x64x128 .bf16) :
    ((s1M.view.loc (c : Thread nD τ)) ↦{fullShare} ((s1M.access rAll).write (Elt F) f (sv1 vv c) Finset.univ) : sProp 𝕄) ⊢ pt c cc0_scratch5 (sv1 vv c) :=
  Entails.of_eq (congrArg (pt c cc0_scratch5) (Memref.write_access_unit_zero_univ (Elt F) cc0_scratch5 z4 _ f (sv1 vv c)))
theorem staged2 (c : Dev nD) (f : Vec F S2x8x64x128 .bf16) :
    ((s2M.view.loc (c : Thread nD τ)) ↦{fullShare} ((s2M.access rAll).write (Elt F) f (sv2 kk c) Finset.univ) : sProp 𝕄) ⊢ pt c cc0_scratch6 (sv2 kk c) :=
  Entails.of_eq (congrArg (pt c cc0_scratch6) (Memref.write_access_unit_zero_univ (Elt F) cc0_scratch6 z4 _ f (sv2 kk c)))
theorem staged3 (c : Dev nD) (f : Vec F S2x8x64x128 .bf16) :
    ((s3M.view.loc (c : Thread nD τ)) ↦{fullShare} ((s3M.access rAll).write (Elt F) f (sv3 vv c) Finset.univ) : sProp 𝕄) ⊢ pt c cc0_scratch7 (sv3 vv c) :=
  Entails.of_eq (congrArg (pt c cc0_scratch7) (Memref.write_access_unit_zero_univ (Elt F) cc0_scratch7 z4 _ f (sv3 vv c)))

theorem sent0 (c : Dev nD) : (pt c cc0_scratch4 (sv0 kk c) : sProp 𝕄) ⊢ (rd kk vv).payload (sendCell 0 c) 0 false :=
  Entails.refl _
theorem landed0 (c : Dev nD) (f : Vec F S2x8x64x128 .bf16) :
    (pt (prv c) cc0_scratch2 (rkM.view.write (Elt F) f (s0M.view.read (Elt F) (sv0 kk c)) Finset.univ) : sProp 𝕄)
      ⊢ (rd kk vv).payload (recvCell 0 (prv c)) 0 false := by
  rw [payload_recv]
  show _ ⊢ pt (prv c) cc0_scratch2 (sv0 kk (nxt (prv c)))
  rw [nxt_prv, View.read_whole, View.write_whole_univ]
theorem sent1 (c : Dev nD) : (pt c cc0_scratch5 (sv1 vv c) : sProp 𝕄) ⊢ (rd kk vv).payload (sendCell 1 c) 0 false :=
  Entails.refl _
theorem landed1 (c : Dev nD) (f : Vec F S2x8x64x128 .bf16) :
    (pt (prv c) cc0_scratch3 (rvM.view.write (Elt F) f (s1M.view.read (Elt F) (sv1 vv c)) Finset.univ) : sProp 𝕄)
      ⊢ (rd kk vv).payload (recvCell 1 (prv c)) 0 false := by
  rw [payload_recv]
  show _ ⊢ pt (prv c) cc0_scratch3 (sv1 vv (nxt (prv c)))
  rw [nxt_prv, View.read_whole, View.write_whole_univ]
theorem sent2 (c : Dev nD) : (pt c cc0_scratch6 (sv2 kk c) : sProp 𝕄) ⊢ (rd kk vv).payload (sendCell 2 c) 0 false :=
  Entails.refl _
theorem landed2 (c : Dev nD) (f : Vec F S2x8x64x128 .bf16) :
    (pt (nxt c) cc0_scratch0 (lkM.view.write (Elt F) f (s2M.view.read (Elt F) (sv2 kk c)) Finset.univ) : sProp 𝕄)
      ⊢ (rd kk vv).payload (recvCell 2 (nxt c)) 0 false := by
  rw [payload_recv]
  show _ ⊢ pt (nxt c) cc0_scratch0 (sv2 kk (prv (nxt c)))
  rw [prv_nxt, View.read_whole, View.write_whole_univ]
theorem sent3 (c : Dev nD) : (pt c cc0_scratch7 (sv3 vv c) : sProp 𝕄) ⊢ (rd kk vv).payload (sendCell 3 c) 0 false :=
  Entails.refl _
theorem landed3 (c : Dev nD) (f : Vec F S2x8x64x128 .bf16) :
    (pt (nxt c) cc0_scratch1 (lvM.view.write (Elt F) f (s3M.view.read (Elt F) (sv3 vv c)) Finset.univ) : sProp 𝕄)
      ⊢ (rd kk vv).payload (recvCell 3 (nxt c)) 0 false := by
  rw [payload_recv]
  show _ ⊢ pt (nxt c) cc0_scratch1 (sv3 vv (prv (nxt c)))
  rw [prv_nxt, View.read_whole, View.write_whole_univ]

end Cert.Halo

end
-- ==== Proof.Body.lean ====
/-
One device's run of the kernel's body: every load, store, signal, transfer and wait in order, from what the launch
hands it to what it gives back, with the result's contents named.
-/
module

public import proofs.«01_k».proof.Proof.Steps

@[expose] public section

noncomputable section

namespace Cert.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (kk vv : Dev nD → Vec F S2x8x64x512 .f32)

set_option maxHeartbeats 1000000 in
set_option maxRecDepth 65536 in
theorem run (K : GSem nD τ sig → ℕ) (c : Dev nD) (W : Waits sig Unit) (x : Vec F S2x512x768 .f32) (wq : Vec F S768x512 .f32) (wo : Vec F S512x768 .f32)
    (f : Vec F S2x512x768 .f32) (Kt : PUnit → sProp 𝕄) :
    iprop(pre kk vv K c W x wq wo f ∗ (post kk vv c x wq wo f -∗ Kt ⟨⟩))
      ⊢ wp frame (wpE (defs₀ (F := F)) 𝒱₀ (c : Thread nD τ) none) Set.univ
        (cc0_body (F := F) xM (Memref.isWhole_whole _) wqM (Memref.isWhole_whole _) kM (Memref.isWhole_whole _) vM (Memref.isWhole_whole _) woM (Memref.isWhole_whole _) oM (Memref.isWhole_whole _) lkM (Memref.isWhole_whole _) lvM (Memref.isWhole_whole _) rkM (Memref.isWhole_whole _) rvM (Memref.isWhole_whole _) s0M (Memref.isWhole_whole _) s1M (Memref.isWhole_whole _) s2M (Memref.isWhole_whole _) s3M (Memref.isWhole_whole _) cc0_scratch8 cc0_scratch9) Kt := by
  rw [cc0_body_eq_skeleton]
  unfold cc0_body_skel
  simp only [k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel,
    Prog.lift, Prog.bind_op, Prog.bind_ret, Prog.pure_eq_ret, semSignalWord, semWaitWord, wp_deviceId, dev1, dev2, dev3, dev4, dev5, dev6, semS0, semR0, semS1, semR1, semS2, semR2, semS3, semR3]
  unfold pre opened invs creds toks
  iintro ⟨⟨⟨⟨#Ib, ⟨#Is0, #Is1, #Is2, #Is3⟩, ⟨#Ir0, #Ir1, #Ir2, #Ir3⟩, ⟨#IbP, #IbN⟩, #IrP0, #IrP1, #IrN2, #IrN3⟩, HatB, ⟨⟨As0, As1, As2, As3⟩, Ar0, Ar1, Ar2, Ar3⟩,
      ⟨#HrbP, #HrbN⟩, ⟨⟨#Rs0, #Rs1, #Rs2, #Rs3⟩, #Rr0, #Rr1, #Rr2, #Rr3⟩, TbP, TbN, ⟨Tr0, Tr1, Tr2, Tr3⟩, Ts0, Ts1, Ts2, Ts3⟩,
    ⟨CB, CR0, CR1, CR2, CR3⟩, #Hlev, HO, ⟨Hx, Hwq, Hk, Hv, Hwo, Ho⟩, ⟨%l0, L0⟩, ⟨%l1, L1⟩, ⟨%l2, L2⟩, ⟨%l3, L3⟩, ⟨%s0, S0⟩, ⟨%s1, S1⟩, ⟨%s2, S2⟩, ⟨%s3, S3⟩⟩, HK⟩
  iapply (ld _ c kM _) $$ Hk; iintro Hk
  iapply (ld _ c s0M _) $$ S0; iintro S0
  iapply (st _ c s0M _) $$ S0; iintro S0
  ihave S0 : (pt c cc0_scratch4 (sv0 kk c)) $$ [S0]
  · iapply (staged0 kk c s0); iexact S0
  iapply (ld _ c vM _) $$ Hv; iintro Hv
  iapply (ld _ c s1M _) $$ S1; iintro S1
  iapply (st _ c s1M _) $$ S1; iintro S1
  ihave S1 : (pt c cc0_scratch5 (sv1 vv c)) $$ [S1]
  · iapply (staged1 vv c s1); iexact S1
  iapply (ld _ c kM _) $$ Hk; iintro Hk
  iapply (ld _ c s2M _) $$ S2; iintro S2
  iapply (st _ c s2M _) $$ S2; iintro S2
  ihave S2 : (pt c cc0_scratch6 (sv2 kk c)) $$ [S2]
  · iapply (staged2 kk c s2); iexact S2
  iapply (ld _ c vM _) $$ Hv; iintro Hv
  iapply (ld _ c s3M _) $$ S3; iintro S3
  iapply (st _ c s3M _) $$ S3; iintro S3
  ihave S3 : (pt c cc0_scratch7 (sv3 vv c)) $$ [S3]
  · iapply (staged3 vv c s3); iexact S3
  unfold O₀
  -- the two signals, then the wait
  iapply (Rounds.wp_signal 𝒱₀ ER (rd kk vv) (c : Thread nD τ) none (dst := (prv c : Thread nD τ)) (sem := barS) (r := 0) (d := false) (κ := K (barCell (prv c)))
      (by rw [duties_bar]; decide) (amount_bar kk vv (prv c) false) () (T4 c + tallyAt (barCell (nxt c)) () 1) rfl) $$ [HO TbP L0 L1]
  · isplitr; · iexact IbP
    isplitl [HO]; · iexact HO
    isplitl [TbP]; · iexact TbP
    isplitl [L0 L1]
    · rw [payload_bar_f]; unfold payNxt; rw [nxt_prv]
      isplitl [L0]; · iexists l0; iexact L0
      isplitl [L1]; · iexists l1; iexact L1
      isplitr; · iexact Rr2
      iexact Rr3
    iexact HrbP
  iintro HO
  iapply (Rounds.wp_signal 𝒱₀ ER (rd kk vv) (c : Thread nD τ) none (dst := (nxt c : Thread nD τ)) (sem := barS) (r := 0) (d := true) (κ := K (barCell (nxt c)))
      (by rw [duties_bar]; decide) (amount_bar kk vv (nxt c) true) () (T4 c) rfl) $$ [HO TbN L2 L3]
  · isplitr; · iexact IbN
    isplitl [HO]; · iexact HO
    isplitl [TbN]; · iexact TbN
    isplitl [L2 L3]
    · rw [payload_bar_t]; unfold payPrv; rw [prv_nxt]
      isplitl [L2]; · iexists l2; iexact L2
      isplitl [L3]; · iexists l3; iexact L3
      isplitr; · iexact Rr0
      iexact Rr1
    iexact HrbN
  iintro HO
  iapply (Rounds.wp_wait_rest_token 𝒱₀ ER (rd kk vv) (c : Thread nD τ) none (κ := K (barCell c)) (k' := 2)
      (wpE_semWait_eq 𝒱₀ (c : Thread nD τ) none Set.univ) (Set.mem_univ _) () (O := T4 c) (W := W) (R := 0) (m := 0) (T := ∅)
      ((Nat.zero_add 2).trans (expect_bar kk vv c).symm)) $$ [CB HO HatB]
  · isplitr; · iexact Ib
    isplitl [CB]; · iexact CB
    isplitl [HO]; · iexact HO
    isplitr; · iapply (mayWait_bar c); iexact Hlev
    iexact HatB
  iintro ⟨HO, HatB, -, Hpay⟩
  ihave Hp := (Entails.of_eq (rest_bar kk vv c)) $$ Hpay
  unfold payNxt payPrv
  icases Hp with ⟨⟨⟨%n0, N0⟩, ⟨%n1, N1⟩, #Rn2, #Rn3⟩, ⟨%n2, N2⟩, ⟨%n3, N3⟩, #Rp0, #Rp1⟩
  iapply (send kk vv _ (K (sendCell 0 c)) (K (recvCell 0 (prv c))) 0 c (prv c) _ (dev3 c) s0M rkM set_s0M set_rkM (amt_rkM 0)
      (sv0 kk c) n2 (sent0 kk vv c) (landed0 kk vv c n2) (T3 c) (insert (SemLoc.reg barS, ()) W)) $$ [S0 N2 HO Ts0 Tr0]
  · isplitr; · iexact Is0
    isplitr; · iexact IrP0
    isplitl [S0]; · iexact S0
    isplitl [N2]; · iexact N2
    isplitl [HO]; · iexact HO
    isplitl [Ts0]; · iexact Ts0
    isplitr; · iexact Rs0
    isplitl [Tr0]; · iexact Tr0
    iexact Rp0
  iintro ⟨CS0, HO⟩
  iapply (send kk vv _ (K (sendCell 1 c)) (K (recvCell 1 (prv c))) 1 c (prv c) _ (dev4 c) s1M rvM set_s1M set_rvM (amt_rvM 1)
      (sv1 vv c) n3 (sent1 kk vv c) (landed1 kk vv c n3) (T2 c) (insert (SemLoc.reg barS, ()) W)) $$ [S1 N3 HO Ts1 Tr1]
  · isplitr; · iexact Is1
    isplitr; · iexact IrP1
    isplitl [S1]; · iexact S1
    isplitl [N3]; · iexact N3
    isplitl [HO]; · iexact HO
    isplitl [Ts1]; · iexact Ts1
    isplitr; · iexact Rs1
    isplitl [Tr1]; · iexact Tr1
    iexact Rp1
  iintro ⟨CS1, HO⟩
  iapply (send kk vv _ (K (sendCell 2 c)) (K (recvCell 2 (nxt c))) 2 c (nxt c) _ (dev5 c) s2M lkM set_s2M set_lkM (amt_lkM 2)
      (sv2 kk c) n0 (sent2 kk vv c) (landed2 kk vv c n0) (T1 c) (insert (SemLoc.reg barS, ()) W)) $$ [S2 N0 HO Ts2 Tr2]
  · isplitr; · iexact Is2
    isplitr; · iexact IrN2
    isplitl [S2]; · iexact S2
    isplitl [N0]; · iexact N0
    isplitl [HO]; · iexact HO
    isplitl [Ts2]; · iexact Ts2
    isplitr; · iexact Rs2
    isplitl [Tr2]; · iexact Tr2
    iexact Rn2
  iintro ⟨CS2, HO⟩
  iapply (send kk vv _ (K (sendCell 3 c)) (K (recvCell 3 (nxt c))) 3 c (nxt c) _ (dev6 c) s3M lvM set_s3M set_lvM (amt_lvM 3)
      (sv3 vv c) n1 (sent3 kk vv c) (landed3 kk vv c n1) 0 (insert (SemLoc.reg barS, ()) W)) $$ [S3 N1 HO Ts3 Tr3]
  · isplitr; · iexact Is3
    isplitr; · iexact IrN3
    isplitl [S3]; · iexact S3
    isplitl [N1]; · iexact N1
    isplitl [HO]; · rw [zero_add]; iexact HO
    isplitl [Ts3]; · iexact Ts3
    isplitr; · iexact Rs3
    isplitl [Tr3]; · iexact Tr3
    iexact Rn3
  iintro ⟨CS3, HO⟩
  iapply (ld _ c xM _) $$ Hx; iintro Hx
  iapply (ld _ c wqM _) $$ Hwq; iintro Hwq
  iapply (ld _ c kM _) $$ Hk; iintro Hk
  iapply (ld _ c vM _) $$ Hv; iintro Hv
  iapply (ld _ c woM _) $$ Hwo; iintro Hwo
  rw [read_xM x, read_wqM wq, read_kM (kk c),
    read_vM (vv c), read_woM wo]
  iapply (ld _ c oM _) $$ Ho; iintro Ho
  iapply (st _ c oM _) $$ Ho; iintro Ho
  iapply (ld _ c oM _) $$ Ho; iintro Ho
  iapply (st _ c oM _) $$ Ho; iintro Ho
  iapply (ld _ c oM _) $$ Ho; iintro Ho
  iapply (st _ c oM _) $$ Ho; iintro Ho
  iapply (ld _ c oM _) $$ Ho; iintro Ho
  iapply (st _ c oM _) $$ Ho; iintro Ho
  iapply (wait_recv kk vv _ (K (recvCell 2 c)) 2 c _ credit_lkM) $$ [CR2 HO Ar2]
  · isplitr; · iexact Ir2
    isplitl [CR2]; · iexact CR2
    isplitl [HO] <;> iassumption
  iintro ⟨HO, Ar2, D2⟩
  iapply (wait_recv kk vv _ (K (recvCell 3 c)) 3 c _ credit_lvM) $$ [CR3 HO Ar3]
  · isplitr; · iexact Ir3
    isplitl [CR3]; · iexact CR3
    isplitl [HO] <;> iassumption
  iintro ⟨HO, Ar3, D3⟩
  ihave D2 := (Entails.of_eq (show dmaPay kk vv c (10 + (2 : Fin 4).val) = pt c cc0_scratch0 (sv2 kk (prv c)) from rfl)) $$ D2
  ihave D3 := (Entails.of_eq (show dmaPay kk vv c (10 + (3 : Fin 4).val) = pt c cc0_scratch1 (sv3 vv (prv c)) from rfl)) $$ D3
  iapply (ld _ c lkM _) $$ D2; iintro D2
  iapply (ld _ c lvM _) $$ D3; iintro D3
  rw [read_lkM (sv2 kk (prv c)), read_lvM (sv3 vv (prv c))]
  iapply (ld _ c oM _) $$ Ho; iintro Ho
  iapply (st _ c oM _) $$ Ho; iintro Ho
  iapply (ld _ c oM _) $$ Ho; iintro Ho
  iapply (st _ c oM _) $$ Ho; iintro Ho
  iapply (wait_recv kk vv _ (K (recvCell 0 c)) 0 c _ credit_rkM) $$ [CR0 HO Ar0]
  · isplitr; · iexact Ir0
    isplitl [CR0]; · iexact CR0
    isplitl [HO] <;> iassumption
  iintro ⟨HO, Ar0, D0⟩
  iapply (wait_recv kk vv _ (K (recvCell 1 c)) 1 c _ credit_rvM) $$ [CR1 HO Ar1]
  · isplitr; · iexact Ir1
    isplitl [CR1]; · iexact CR1
    isplitl [HO] <;> iassumption
  iintro ⟨HO, Ar1, D1⟩
  ihave D0 := (Entails.of_eq (show dmaPay kk vv c (10 + (0 : Fin 4).val) = pt c cc0_scratch2 (sv0 kk (nxt c)) from rfl)) $$ D0
  ihave D1 := (Entails.of_eq (show dmaPay kk vv c (10 + (1 : Fin 4).val) = pt c cc0_scratch3 (sv1 vv (nxt c)) from rfl)) $$ D1
  iapply (ld _ c rkM _) $$ D0; iintro D0
  iapply (ld _ c rvM _) $$ D1; iintro D1
  rw [read_rkM (sv0 kk (nxt c)), read_rvM (sv1 vv (nxt c))]
  iapply (ld _ c oM _) $$ Ho; iintro Ho
  iapply (st _ c oM _) $$ Ho; iintro Ho
  iapply (ld _ c oM _) $$ Ho; iintro Ho
  iapply (st _ c oM _) $$ Ho; iintro Ho
  iapply (wait_send kk vv _ (K (sendCell 0 c)) 0 c _ credit_s0M) $$ [CS0 HO As0]
  · isplitr; · iexact Is0
    isplitl [CS0]; · iexact CS0
    isplitl [HO] <;> iassumption
  iintro ⟨HO, As0, S0⟩
  iapply (wait_send kk vv _ (K (sendCell 1 c)) 1 c _ credit_s1M) $$ [CS1 HO As1]
  · isplitr; · iexact Is1
    isplitl [CS1]; · iexact CS1
    isplitl [HO] <;> iassumption
  iintro ⟨HO, As1, S1⟩
  iapply (wait_send kk vv _ (K (sendCell 2 c)) 2 c _ credit_s2M) $$ [CS2 HO As2]
  · isplitr; · iexact Is2
    isplitl [CS2]; · iexact CS2
    isplitl [HO] <;> iassumption
  iintro ⟨HO, As2, S2⟩
  iapply (wait_send kk vv _ (K (sendCell 3 c)) 3 c _ credit_s3M) $$ [CS3 HO As3]
  · isplitr; · iexact Is3
    isplitl [CS3]; · iexact CS3
    isplitl [HO] <;> iassumption
  iintro ⟨HO, As3, S3⟩
  ihave S0 := (Entails.of_eq (show dmaPay kk vv c (6 + (0 : Fin 4).val) = pt c cc0_scratch4 (sv0 kk c) from rfl)) $$ S0
  ihave S1 := (Entails.of_eq (show dmaPay kk vv c (6 + (1 : Fin 4).val) = pt c cc0_scratch5 (sv1 vv c) from rfl)) $$ S1
  ihave S2 := (Entails.of_eq (show dmaPay kk vv c (6 + (2 : Fin 4).val) = pt c cc0_scratch6 (sv2 kk c) from rfl)) $$ S2
  ihave S3 := (Entails.of_eq (show dmaPay kk vv c (6 + (3 : Fin 4).val) = pt c cc0_scratch7 (sv3 vv c) from rfl)) $$ S3
  rw [wp_ret]
  imod (close kk vv (K (barCell c)) (barCell c)) $$ [HatB] with Z
  · isplitr; · iexact Ib
    iexact HatB
  imod (close kk vv (K (sendCell 0 c)) (sendCell 0 c)) $$ [As0] with Zs0
  · isplitr; · iexact Is0
    iexact As0
  imod (close kk vv (K (recvCell 0 c)) (recvCell 0 c)) $$ [Ar0] with Zr0
  · isplitr; · iexact Ir0
    iexact Ar0
  imod (close kk vv (K (sendCell 1 c)) (sendCell 1 c)) $$ [As1] with Zs1
  · isplitr; · iexact Is1
    iexact As1
  imod (close kk vv (K (recvCell 1 c)) (recvCell 1 c)) $$ [Ar1] with Zr1
  · isplitr; · iexact Ir1
    iexact Ar1
  imod (close kk vv (K (sendCell 2 c)) (sendCell 2 c)) $$ [As2] with Zs2
  · isplitr; · iexact Is2
    iexact As2
  imod (close kk vv (K (recvCell 2 c)) (recvCell 2 c)) $$ [Ar2] with Zr2
  · isplitr; · iexact Ir2
    iexact Ar2
  imod (close kk vv (K (sendCell 3 c)) (sendCell 3 c)) $$ [As3] with Zs3
  · isplitr; · iexact Is3
    iexact As3
  imod (close kk vv (K (recvCell 3 c)) (recvCell 3 c)) $$ [Ar3] with Zr3
  · isplitr; · iexact Ir3
    iexact Ar3
  imodintro
  iapply HK
  unfold post each
  isplitl [Z]; · iexact Z
  isplitl [Zs0 Zs1 Zs2 Zs3 Zr0 Zr1 Zr2 Zr3]
  · isplitl [Zs0 Zs1 Zs2 Zs3]
    · isplitl [Zs0]; · iexact Zs0
      isplitl [Zs1]; · iexact Zs1
      isplitl [Zs2] <;> iassumption
    isplitl [Zr0]; · iexact Zr0
    isplitl [Zr1]; · iexact Zr1
    isplitl [Zr2] <;> iassumption
  isplitl [Hx Hwq Hk Hv Hwo Ho]
  · isplitl [Hx]; · iexact Hx
    isplitl [Hwq]; · iexact Hwq
    isplitl [Hk]; · iexact Hk
    isplitl [Hv]; · iexact Hv
    isplitl [Hwo]; · iexact Hwo
    iexact Ho
  isplitr [HO]
  · isplitl [D2]; · iexists _; iexact D2
    isplitl [D3]; · iexists _; iexact D3
    isplitl [D0]; · iexists _; iexact D0
    isplitl [D1]; · iexists _; iexact D1
    isplitl [S0]; · iexists (sv0 kk c); iexact S0
    isplitl [S1]; · iexists (sv1 vv c); iexact S1
    isplitl [S2]; · iexists (sv2 kk c); iexact S2
    iexists (sv3 vv c); iexact S3
  iexists _; iexact HO

end Cert.Halo

end
-- ==== Proof.Output.lean ====
/-
The result of a device at an index: the eight blocks it stores tile the buffer, so the result does not depend on what
the buffer held before, and at a row of block `n` of batch `b` it is that block's row.
-/
module

public import proofs.«01_k».proof.Proof.Values

@[expose] public section

noncomputable section

namespace Cert.Halo

open Cert.KernelIdeal Cert.KernelIdeal.Gen
open Idealize.ShloMosaic Idealize.ShloMosaic.TcCoe

variable {F : FTy → Type} [FloatOps F] [Named F]

theorem outR_val (b : Fin 2) (n : Fin 4) (x : S1x128x768.Idx) (a : Fin 3) :
    (((outR b n).emb x : S2x512x768.Idx) a).val = (![b.val, 128 * n.val, 0] : Fin 3 → Nat) a + (x a).val := by
  show _ + 1 * (x a).val = _
  rw [Nat.one_mul]; rfl

/-- A block reads back where it was stored. -/
theorem put_same (b : Fin 2) (n : Fin 4) (w : FVec F S1x128x768 .f32) (f : Vec F S2x512x768 .f32) (x : S1x128x768.Idx) :
    put b n w f ((outR b n).emb x) = w x :=
  View.write_emb_of_mem (v := ((Memref.whole cc0_stg5_0 : Memref sig .tc .vmem S2x512x768 .f32).access (outR b n))) f w (Finset.mem_univ x)

/-- Two different blocks do not meet. -/
theorem put_other {b b' : Fin 2} {n n' : Fin 4} (h : b ≠ b' ∨ n ≠ n') (w : FVec F S1x128x768 .f32) (f : Vec F S2x512x768 .f32) (x : S1x128x768.Idx) :
    put b n w f ((outR b' n').emb x) = f ((outR b' n').emb x) := by
  refine View.write_of_not_mem (v := ((Memref.whole cc0_stg5_0 : Memref sig .tc .vmem S2x512x768 .f32).access (outR b n))) f w Finset.univ ?_
  intro hm
  obtain ⟨y, -, hy⟩ := Finset.mem_map.mp hm
  have e : ∀ a : Fin 3, (![b.val, 128 * n.val, 0] : Fin 3 → Nat) a + (y a).val = (![b'.val, 128 * n'.val, 0] : Fin 3 → Nat) a + (x a).val := fun a => by
    rw [← outR_val, ← outR_val]
    exact congrArg Fin.val (congrFun hy a)
  have h0 : b.val + (y 0).val = b'.val + (x 0).val := e 0
  have h1 : 128 * n.val + (y 1).val = 128 * n'.val + (x 1).val := e 1
  have y0 : (y 0).val < 1 := (y 0).isLt
  have x0 : (x 0).val < 1 := (x 0).isLt
  have y1 : (y 1).val < 128 := (y 1).isLt
  have x1 : (x 1).val < 128 := (x 1).isLt
  rcases h with h | h
  · exact h (Fin.ext (by omega))
  · exact h (Fin.ext (by omega))

theorem put_at (b b' : Fin 2) (n n' : Fin 4) (w : FVec F S1x128x768 .f32) (f : Vec F S2x512x768 .f32) (x : S1x128x768.Idx) :
    put b n w f ((outR b' n').emb x) = if b = b' ∧ n = n' then w x else f ((outR b' n').emb x) := by
  by_cases h : b = b' ∧ n = n'
  · obtain ⟨rfl, rfl⟩ := h
    rw [if_pos ⟨rfl, rfl⟩]; exact put_same b n w f x
  · rw [if_neg h]; exact put_other (not_and_or.mp h) w f x

/-- Every index lies in one of the eight blocks. -/
theorem cover (i : S2x512x768.Idx) : ∃ (b : Fin 2) (n : Fin 4) (x : S1x128x768.Idx), i = (outR b n).emb x := by
  have h0 : (i 0).val < 2 := (i 0).isLt
  have h1 : (i 1).val < 512 := (i 1).isLt
  have h2 : (i 2).val < 768 := (i 2).isLt
  refine ⟨⟨(i 0).val, h0⟩, ⟨(i 1).val / 128, by omega⟩,
    fun | 0 => ⟨0, Nat.one_pos⟩ | 1 => ⟨(i 1).val % 128, Nat.mod_lt _ (by decide)⟩ | 2 => ⟨(i 2).val, h2⟩, ?_⟩
  funext a
  apply Fin.ext
  rw [outR_val]
  match a with
  | 0 => exact (Nat.add_zero _).symm
  | 1 => show (i 1).val = 128 * ((i 1).val / 128) + (i 1).val % 128; omega
  | 2 => exact (Nat.zero_add _).symm

/-- Block `n` of batch `b` of the result. -/
def blk (c : Dev nD) (q : FVec F S1024x512 .f32) (k v : FVec F S2x8x64x512 .f32) (lk lv rk rv : FVec F S2x8x64x128 .f32) (wo : FVec F S512x768 .f32)
    (b : Fin 2) : Fin 4 → FVec F S1x128x768 .f32
  | 0 => blkLo (my c) q k v lk lv wo b
  | 1 => blkMid q k v wo b 0
  | 2 => blkMid q k v wo b 1
  | 3 => blkHi (my c) q k v rk rv wo b

theorem outV_at (c : Dev nD) (x : Vec F S2x512x768 .f32) (wq : Vec F S768x512 .f32) (k v : Vec F S2x8x64x512 .f32) (wo : Vec F S512x768 .f32)
    (lk lv rk rv : Vec F S2x8x64x128 .bf16) (f : Vec F S2x512x768 .f32) (b : Fin 2) (n : Fin 4) (y : S1x128x768.Idx) :
    outV c x wq k v wo lk lv rk rv f ((outR b n).emb y)
      = blk c (k0_pay5 x wq) (k0_pay7 k) (k0_pay8 v) (extf .f32 lk bitsLt_bf16_f32) (extf .f32 lv bitsLt_bf16_f32) (extf .f32 rk bitsLt_bf16_f32)
          (extf .f32 rv bitsLt_bf16_f32) (k0_pay9 wo) b n y := by
  unfold outV
  simp only [put_at]
  fin_cases b <;> fin_cases n <;> rfl

/-- The result does not depend on what its buffer held. -/
theorem outV_any (c : Dev nD) (x : Vec F S2x512x768 .f32) (wq : Vec F S768x512 .f32) (k v : Vec F S2x8x64x512 .f32) (wo : Vec F S512x768 .f32)
    (lk lv rk rv : Vec F S2x8x64x128 .bf16) (f f' : Vec F S2x512x768 .f32) :
    outV c x wq k v wo lk lv rk rv f = outV c x wq k v wo lk lv rk rv f' := by
  funext i
  obtain ⟨b, n, y, rfl⟩ := cover i
  rw [outV_at, outV_at]

end Cert.Halo

end
-- ==== Proof.Deal.lean ====
/-
Dealing the protocol out at the launch: the twelve cells of each device, the one token of each duty, handed to the
device that pays it, and the units each device is owed, read off what the others owe.
-/
module

public import proofs.«01_k».proof.Proof.Proto

@[expose] public section

noncomputable section

namespace Cert.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (kk vv : Dev nD → Vec F S2x8x64x512 .f32)

/-! ## The cells -/

theorem osem_inj : Function.Injective osem := by decide

def barEmb : Dev nD ↪ GSem nD τ sig := ⟨fun c => barCell c, fun _ _ h => congrArg (fun g : GSem nD τ sig => g.1.1) h⟩
def dmaEmb : Dev nD × Fin 8 ↪ GSem nD τ sig :=
  ⟨fun p => ((p.1 : Thread nD τ), osem p.2), fun _ _ h =>
    Prod.ext (congrArg (fun g : GSem nD τ sig => g.1.1) h) (osem_inj (congrArg Prod.snd h))⟩

/-- The barrier cells, whose counters the launch has, and the transfer cells, whose counters the region brings. -/
abbrev barCells : Finset (GSem nD τ sig) := Finset.univ.map barEmb
abbrev dmaCells : Finset (GSem nD τ sig) := Finset.univ.map dmaEmb

theorem cells_disjoint : Disjoint (barCells : Finset (GSem nD τ sig)) dmaCells := by
  rw [Finset.disjoint_left]
  intro g h h'
  obtain ⟨c, -, rfl⟩ := Finset.mem_map.mp h
  obtain ⟨p, -, e⟩ := Finset.mem_map.mp h'
  exact absurd (congrArg Prod.snd e) (fun e' => nomatch (e' : osem p.2 = .reg barS))

theorem bar_mem (c : Dev nD) : barCell c ∈ (barCells ∪ dmaCells : Finset (GSem nD τ sig)) :=
  Finset.mem_union_left _ (Finset.mem_map_of_mem barEmb (Finset.mem_univ c))
theorem send_osem (k : Fin 4) : (SemLoc.dma (sendS k) : SemLoc sig) = osem ⟨k.val, by omega⟩ := rfl
theorem recv_osem (k : Fin 4) : (SemLoc.dma (recvS k) : SemLoc sig) = osem ⟨4 + k.val, by omega⟩ :=
  congrArg SemLoc.dma (Fin.ext (show 10 + k.val = 6 + (4 + k.val) by omega))
theorem send_mem (k : Fin 4) (c : Dev nD) : sendCell k c ∈ (barCells ∪ dmaCells : Finset (GSem nD τ sig)) :=
  Finset.mem_union_right _ (Finset.mem_map_of_mem dmaEmb (Finset.mem_univ (c, (⟨k.val, by omega⟩ : Fin 8))))
theorem recv_mem (k : Fin 4) (c : Dev nD) : recvCell k c ∈ (barCells ∪ dmaCells : Finset (GSem nD τ sig)) := by
  show ((c : Thread nD τ), SemLoc.dma (recvS k)) ∈ _
  rw [recv_osem]
  exact Finset.mem_union_right _ (Finset.mem_map_of_mem dmaEmb (Finset.mem_univ (c, (⟨4 + k.val, by omega⟩ : Fin 8))))

/-! ## The duties' tokens -/

/-- The ten duties of one device's cells. -/
abbrev duty : Fin 10 → SemLoc sig × Bool
  | 0 => (.reg barS, false) | 1 => (.reg barS, true)
  | 2 => (.dma (sendS 0), false) | 3 => (.dma (sendS 1), false) | 4 => (.dma (sendS 2), false) | 5 => (.dma (sendS 3), false)
  | 6 => (.dma (recvS 0), false) | 7 => (.dma (recvS 1), false) | 8 => (.dma (recvS 2), false) | 9 => (.dma (recvS 3), false)

theorem duty_inj : Function.Injective duty := by decide

def duties : Finset (GSem nD τ sig × ℕ × Bool) :=
  Finset.univ.map ⟨fun p : Dev nD × Fin 10 => (((p.1 : Thread nD τ), (duty p.2).1), 0, (duty p.2).2), fun _ _ h =>
    Prod.ext (congrArg (fun t : GSem nD τ sig × ℕ × Bool => t.1.1.1) h)
      (duty_inj (Prod.ext (congrArg (fun t : GSem nD τ sig × ℕ × Bool => t.1.2) h) (congrArg (fun t : GSem nD τ sig × ℕ × Bool => t.2.2) h)))⟩

/-- The tokens of device `c`'s own cells. -/
def ownToks (c : Dev nD) : sProp 𝕄 :=
  iprop(dutyTok ER (barCell c) 0 false ∗ dutyTok ER (barCell c) 0 true
    ∗ dutyTok ER (sendCell 0 c) 0 false ∗ dutyTok ER (sendCell 1 c) 0 false ∗ dutyTok ER (sendCell 2 c) 0 false ∗ dutyTok ER (sendCell 3 c) 0 false
    ∗ dutyTok ER (recvCell 0 c) 0 false ∗ dutyTok ER (recvCell 1 c) 0 false ∗ dutyTok ER (recvCell 2 c) 0 false ∗ dutyTok ER (recvCell 3 c) 0 false)

theorem duties_eq : bigSep duties (fun x => (dutyTok ER x.1 x.2.1 x.2.2 : sProp 𝕄)) = bigSep Finset.univ fun c : Dev nD => ownToks c := by
  unfold duties; rw [bigSep_map, bigSep_univ_prod]
  refine bigSep_congr fun c _ => ?_
  rw [bigSep_univ_eq_bigSepL [(0 : Fin 10), 1, 2, 3, 4, 5, 6, 7, 8, 9] (by decide) (by decide)]
  rfl

/-- Each token to the device that pays the duty. -/
theorem toks_around : (bigSep Finset.univ fun c : Dev nD => (ownToks c : sProp 𝕄)) ⊢ bigSep Finset.univ fun c : Dev nD => toks c := by
  unfold ownToks toks
  simp only [bigSep_sep']
  rw [bigSep_univ_equiv around.symm (fun c : Dev nD => (dutyTok ER (barCell c) 0 false : sProp 𝕄)),
    bigSep_univ_equiv around (fun c : Dev nD => (dutyTok ER (barCell c) 0 true : sProp 𝕄)),
    bigSep_univ_equiv around.symm (fun c : Dev nD => (dutyTok ER (recvCell 0 c) 0 false : sProp 𝕄)),
    bigSep_univ_equiv around.symm (fun c : Dev nD => (dutyTok ER (recvCell 1 c) 0 false : sProp 𝕄)),
    bigSep_univ_equiv around (fun c : Dev nD => (dutyTok ER (recvCell 2 c) 0 false : sProp 𝕄)),
    bigSep_univ_equiv around (fun c : Dev nD => (dutyTok ER (recvCell 3 c) 0 false : sProp 𝕄))]
  iintro ⟨B0, B1, S0, S1, S2, S3, R0, R1, R2, R3⟩
  isplitl [B0]; · iexact B0
  isplitl [B1]; · iexact B1
  isplitl [R0 R1 R2 R3]
  · isplitl [R0]; · iexact R0
    isplitl [R1]; · iexact R1
    isplitl [R2]; · iexact R2
    iexact R3
  isplitl [S0]; · iexact S0
  isplitl [S1]; · iexact S1
  isplitl [S2] <;> iassumption

/-! ## What each device carries -/

/-- Every invariant, and that every barrier has reached its round. -/
def records (κ : GSem nD τ sig → ℕ) : sProp 𝕄 :=
  iprop((bigSep (barCells ∪ dmaCells) fun g => cellInv ER (rd kk vv) (κ g) g) ∗ bigSep barCells fun g => reached ER g 0)

instance records_persistent (κ : GSem nD τ sig → ℕ) : BI.Persistent (records kk vv κ) := by unfold records; infer_instance

theorem record (κ : GSem nD τ sig → ℕ) {g : GSem nD τ sig} (h : g ∈ (barCells ∪ dmaCells : Finset (GSem nD τ sig))) :
    records kk vv κ ⊢ cellInv ER (rd kk vv) (κ g) g := by
  unfold records
  iintro ⟨H, -⟩
  iapply (show (bigSep (barCells ∪ dmaCells) fun g => (cellInv ER (rd kk vv) (κ g) g : sProp 𝕄)) ⊢ cellInv ER (rd kk vv) (κ g) g from bigSep_elim h)
  iexact H

theorem round (κ : GSem nD τ sig → ℕ) (c : Dev nD) : records kk vv κ ⊢ reached ER (barCell c) 0 := by
  unfold records
  iintro ⟨-, H⟩
  iapply (show (bigSep barCells fun g => (reached ER g 0 : sProp 𝕄)) ⊢ reached ER (barCell c) 0 from bigSep_elim (Finset.mem_map_of_mem barEmb (Finset.mem_univ c)))
  iexact H

/-- What is device `c`'s alone. -/
def alone (c : Dev nD) : sProp 𝕄 :=
  iprop(atPos ER (barCell c) 0 ∅ 0 ∗ each (fun c g => openTok ER (g c)) c ∗ toks c)

theorem ghost_intro (κ : GSem nD τ sig → ℕ) (c : Dev nD) : iprop(records kk vv κ ∗ alone c) ⊢ ghost kk vv κ c := by
  unfold alone ghost invs
  iintro ⟨#H, HA, HO, HT⟩
  isplitr
  · isplitr; · iapply (record kk vv κ (bar_mem c)); iexact H
    isplitr
    · isplitr; · iapply (record kk vv κ (send_mem 0 c)); iexact H
      isplitr; · iapply (record kk vv κ (send_mem 1 c)); iexact H
      isplitr; · iapply (record kk vv κ (send_mem 2 c)); iexact H
      iapply (record kk vv κ (send_mem 3 c)); iexact H
    isplitr
    · isplitr; · iapply (record kk vv κ (recv_mem 0 c)); iexact H
      isplitr; · iapply (record kk vv κ (recv_mem 1 c)); iexact H
      isplitr; · iapply (record kk vv κ (recv_mem 2 c)); iexact H
      iapply (record kk vv κ (recv_mem 3 c)); iexact H
    isplitr
    · isplitr; · iapply (record kk vv κ (bar_mem (prv c))); iexact H
      iapply (record kk vv κ (bar_mem (nxt c))); iexact H
    isplitr; · iapply (record kk vv κ (recv_mem 0 (prv c))); iexact H
    isplitr; · iapply (record kk vv κ (recv_mem 1 (prv c))); iexact H
    isplitr; · iapply (record kk vv κ (recv_mem 2 (nxt c))); iexact H
    iapply (record kk vv κ (recv_mem 3 (nxt c))); iexact H
  isplitl [HA]; · iexact HA
  isplitl [HO]; · iexact HO
  isplitr
  · isplitr; · iapply (round kk vv κ (prv c)); iexact H
    iapply (round kk vv κ (nxt c)); iexact H
  iexact HT

/-! ## What each device is owed -/

theorem tally_eq (g g' : GSem nD τ sig) (n : ℕ) : (tallyAt g' () n : CellTallies nD τ sig Unit) g () = if g = g' then n else 0 := by
  rw [tallyAt_apply]; simp only [and_true]

theorem bar_eq (c d : Dev nD) : barCell c = barCell d ↔ c = d := ⟨fun h => congrArg (fun g : GSem nD τ sig => g.1.1) h, fun h => h ▸ rfl⟩
theorem recv_eq (k l : Fin 4) (c d : Dev nD) : recvCell k c = recvCell l d ↔ k = l ∧ c = d := by
  refine ⟨fun h => ⟨?_, congrArg (fun g : GSem nD τ sig => g.1.1) h⟩, fun h => by rw [h.1, h.2]⟩
  have e : (SemLoc.dma (recvS k) : SemLoc sig) = .dma (recvS l) := congrArg Prod.snd h
  have e' : 10 + k.val = 10 + l.val := congrArg Fin.val (SemLoc.dma.inj e)
  exact Fin.ext (by omega)
theorem bar_ne_recv (k : Fin 4) (c d : Dev nD) : ¬ barCell c = recvCell k d := fun h => nomatch (congrArg Prod.snd h : SemLoc.reg barS = SemLoc.dma (recvS k))
theorem recv_ne_bar (k : Fin 4) (c d : Dev nD) : ¬ recvCell k c = barCell d := fun h => bar_ne_recv k d c h.symm

theorem is_nxt (c d : Dev nD) : c = nxt d ↔ d = prv c := ⟨fun h => by rw [h, prv_nxt], fun h => by rw [h, nxt_prv]⟩
theorem is_prv (c d : Dev nD) : c = prv d ↔ d = nxt c := ⟨fun h => by rw [h, nxt_prv], fun h => by rw [h, prv_nxt]⟩

theorem bar_nxt (c d : Dev nD) : barCell c = barCell (nxt d) ↔ d = prv c := (bar_eq c (nxt d)).trans (is_nxt c d)
theorem bar_prv (c d : Dev nD) : barCell c = barCell (prv d) ↔ d = nxt c := (bar_eq c (prv d)).trans (is_prv c d)
theorem recv_nxt (k l : Fin 4) (c d : Dev nD) : recvCell k c = recvCell l (nxt d) ↔ k = l ∧ d = prv c := (recv_eq k l c (nxt d)).trans (and_congr_right fun _ => is_nxt c d)
theorem recv_prv (k l : Fin 4) (c d : Dev nD) : recvCell k c = recvCell l (prv d) ↔ k = l ∧ d = nxt c := (recv_eq k l c (prv d)).trans (and_congr_right fun _ => is_prv c d)

/-- Who owes a device's cells. -/
theorem owed (d : Dev nD) (g : GSem nD τ sig) : O₀ d g () = (if g = recvCell 3 (nxt d) then N else 0) + (if g = recvCell 2 (nxt d) then N else 0)
    + (if g = recvCell 1 (prv d) then N else 0) + (if g = recvCell 0 (prv d) then N else 0) + (if g = barCell (nxt d) then 1 else 0)
    + (if g = barCell (prv d) then 1 else 0) := by
  unfold O₀
  simp only [Pi.add_apply, Finsupp.add_apply, tally_eq]

theorem owed_bar (c : Dev nD) : ∑ d : Dev nD, O₀ d (barCell c) () = 2 := by
  simp only [owed, bar_ne_recv, if_false, bar_nxt, bar_prv, Nat.zero_add, Finset.sum_add_distrib, Finset.sum_ite_eq', Finset.mem_univ, if_true]
theorem owed_recv (k : Fin 4) (c : Dev nD) : ∑ d : Dev nD, O₀ d (recvCell k c) () = N := by
  simp only [owed, recv_ne_bar, if_false, recv_nxt, recv_prv, Nat.add_zero]
  fin_cases k <;> simp [Finset.sum_ite_eq']

theorem credit_of (c : Dev nD) (sm : SemLoc sig) (n : ℕ) (h : ∑ d : Dev nD, O₀ d ((c : Thread nD τ), sm) () = n) :
    tallyOn ((c : Thread nD τ), sm) (launchCredit (Pipeline.owing O₀) 0 ((c : Thread nD τ), sm))
      = (tallyAt ((c : Thread nD τ), sm) () n : CellTallies nD τ sig Unit) := by
  unfold tallyAt
  refine congrArg _ (Finsupp.ext fun u => ?_)
  cases u
  rw [Pipeline.launchCredit_owing, Finsupp.single_eq_same, h]

theorem creds_intro (c : Dev nD) : (Pipeline.launchCred O₀ c : sProp 𝕄) ⊢ creds c := by
  unfold Pipeline.launchCred creds
  refine BIBase.Entails.trans (bigSep_subset (Finset.subset_univ ({.reg barS, .dma (recvS 0), .dma (recvS 1), .dma (recvS 2), .dma (recvS 3)} : Finset (SemLoc sig)))) ?_
  rw [bigSep_eq_bigSepL_of_eq [(.reg barS : SemLoc sig), .dma (recvS 0), .dma (recvS 1), .dma (recvS 2), .dma (recvS 3)] (by decide) (by decide)]
  rw [← credit_of c (.reg barS) 2 (owed_bar c), ← credit_of c (.dma (recvS 0)) N (owed_recv 0 c), ← credit_of c (.dma (recvS 1)) N (owed_recv 1 c),
    ← credit_of c (.dma (recvS 2)) N (owed_recv 2 c), ← credit_of c (.dma (recvS 3)) N (owed_recv 3 c)]
  exact BIBase.Entails.rfl

end Cert.Halo

end
-- ==== Proof.Launch.lean ====
/-
The launch: the kernel's region entered from the two transposes and the protocol dealt at the start, and the run of
`@main` on the four devices, which ends with the result of `Body.lean` in every device's result buffer.
-/
module

public import proofs.«01_k».proof.Proof.Body
public import proofs.«01_k».proof.Proof.Output
public import proofs.«01_k».proof.Proof.Deal

@[expose] public section

noncomputable section

namespace Cert.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## What the region finds and leaves -/

/-- The five operands as staged, and the result. -/
def xS (c : Dev nD) : Vec F S2x512x768 .f32 := iblk m c 0 t0_0
def wqS (c : Dev nD) : Vec F S768x512 .f32 := iblk m c 1 t0_0
def kS (c : Dev nD) : Vec F S2x8x64x512 .f32 := iblk m c 2 t0_0
def vS (c : Dev nD) : Vec F S2x8x64x512 .f32 := iblk m c 3 t0_0
def woS (c : Dev nD) : Vec F S512x768 .f32 := iblk m c 4 t0_0
def oS (c : Dev nD) : Vec F S2x512x768 .f32 :=
  outV c (xS m c) (wqS m c) (kS m c) (vS m c) (woS m c) (sv2 (kS m) (prv c)) (sv3 (vS m) (prv c)) (sv0 (kS m) (nxt c)) (sv1 (vS m) (nxt c)) (xS m c)

/-- What the kernel is entered with beside its operands, and what it leaves. -/
def Xc (c : Dev nD) : sProp 𝕄 := iprop((∃ K, opened (kS m) (vS m) K c) ∗ creds c ∗ levAts L lv)
def scratch (c : Dev nD) : sProp 𝕄 := Pipeline.scopedRest (Ix := Unit) (Name := ℕ) (U := UU) (Lvl := ℕ) (Val := Elt F) spec0 c
def sems (c : Dev nD) : sProp 𝕄 := each (fun c g => semVal (g c) 0) c

/-- The proof data: the arrays as the transposes leave them; after the body the operands' buffers as staged and the
    result's at the result; what the protocol carries before the one point, the counters at zero after it. -/
def dats (_ : Fin 1) (c : Dev nD) : Dat τ (Elt F) Unit ℕ UU ℕ cfg0 c where
  A w := V m c (Pipeline.arrRef spec0 w)
  after w _ := match w with
    | ⟨0, _⟩ => xS m c | ⟨1, _⟩ => wqS m c | ⟨2, _⟩ => kS m c | ⟨3, _⟩ => vS m c | ⟨4, _⟩ => woS m c | ⟨5, _⟩ => oS m c
  Φ t := if t.val = 0 then iprop(Xc m c ∗ scratch c) else iprop(semVal (barCell c) 0 ∗ sems c ∗ scratch c)
  q _ := fullShare
  owed t := if t.val = 0 then O₀ c else 0

theorem A_eq (c : Dev nD) (w : Fin cfg0.W) : (dats m 0 c).A w = V m c (Pipeline.arrRef spec0 w) := by dsimp only [dats]

theorem before0 (c : Dev nD) (d) : (dats m 0 c).before 0 t0_0 d = xS m c := by unfold Dat.before; rw [if_pos (by decide)]; rfl
theorem before1 (c : Dev nD) (d) : (dats m 0 c).before 1 t0_0 d = wqS m c := by unfold Dat.before; rw [if_pos (by decide)]; rfl
theorem before2 (c : Dev nD) (d) : (dats m 0 c).before 2 t0_0 d = kS m c := by unfold Dat.before; rw [if_pos (by decide)]; rfl
theorem before3 (c : Dev nD) (d) : (dats m 0 c).before 3 t0_0 d = vS m c := by unfold Dat.before; rw [if_pos (by decide)]; rfl
theorem before4 (c : Dev nD) (d) : (dats m 0 c).before 4 t0_0 d = woS m c := by unfold Dat.before; rw [if_pos (by decide)]; rfl

theorem owed_first (c : Dev nD) : (dats m 0 c).owed t0_0.castSucc = O₀ c := by
  show (if (t0_0.castSucc : Fin (cfg0.N + 1)).val = 0 then O₀ c else 0) = O₀ c; exact if_pos rfl
theorem owed_last (c : Dev nD) : (dats m 0 c).owed (Fin.last cfg0.N) = 0 := by
  show (if (Fin.last cfg0.N).val = 0 then O₀ c else 0) = 0
  rw [Fin.val_last, if_neg (by rw [show cfg0.N = 1 from N_0]; decide)]

theorem owes_to (c : Dev nD) (t : Fin (cfg0.N + 1)) (O : CellTallies nD τ sig Unit) (h : (dats m 0 c).owed t = O) (W : Waits sig Unit) :
    (owes (c : Thread nD τ) O W : sProp 𝕄) ⊢ ((dats m 0 c).owesAt () t : sProp 𝕄) := by
  unfold Dat.owesAt Pipeline.owesWithin; rw [h]
  iintro HO; iexists W; isplitr; · ipureintro; exact fun _ _ => Or.inl trivial
  iexact HO
theorem owes_of (c : Dev nD) (t : Fin (cfg0.N + 1)) (O : CellTallies nD τ sig Unit) (h : (dats m 0 c).owed t = O) :
    ((dats m 0 c).owesAt () t : sProp 𝕄) ⊢ iprop(∃ W, owes (c : Thread nD τ) O W) := by
  unfold Dat.owesAt Pipeline.owesWithin; rw [h]
  iintro ⟨%W, -, HO⟩; iexists W; iexact HO

/-- The body's run, in the region's terms. -/
theorem body_obligation (c : Dev nD) : BodyObligation (dats m 0 c) (defs₀ (F := F)) 𝒱₀ () Set.univ := fun t => by
  obtain rfl := fin_N0 t
  rw [bigSep_W0, bigSep_W0]
  simp only [owns_whole_eq]
  rw [show (dats m 0 c).Φ t0_0.castSucc = iprop(Xc m c ∗ scratch c) from rfl,
    show (dats m 0 c).Φ t0_0.succ = iprop(semVal (barCell c) 0 ∗ sems c ∗ scratch c) from rfl]
  unfold Xc scratch sems
  rw [scopedRest0_eq]
  iintro ⟨⟨⟨⟨%K, Hg⟩, Hc, Hl⟩, Hs⟩, HO, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩⟩
  rw [before0] at h0; rw [before1] at h1; rw [before2] at h2; rw [before3] at h3; rw [before4] at h4
  subst h0 h1 h2 h3 h4
  ihave HO' := (owes_of m c _ (O₀ c) (owed_first m c)) $$ HO
  icases HO' with ⟨%W, HO⟩
  iapply (run (kS m) (vS m) K c W (xS m c) (wqS m c) (woS m c) f5 _)
  isplitl [Hg Hc Hl Hs HO H0 H1 H2 H3 H4 H5]
  · unfold pre
    isplitl [Hg]; · iexact Hg
    isplitl [Hc]; · iexact Hc
    isplitl [Hl]; · iexact Hl
    isplitl [HO]; · iexact HO
    isplitl [H0 H1 H2 H3 H4 H5]
    · isplitl [H0]; · iexact H0
      isplitl [H1]; · iexact H1
      isplitl [H2]; · iexact H2
      isplitl [H3]; · iexact H3
      isplitl [H4]; · iexact H4
      iexact H5
    iexact Hs
  unfold post
  rw [outV_any c (xS m c) (wqS m c) (kS m c) (vS m c) (woS m c) (sv2 (kS m) (prv c)) (sv3 (vS m) (prv c)) (sv0 (kS m) (nxt c)) (sv1 (vS m) (nxt c)) f5 (xS m c)]
  iintro ⟨Hb, Hv, ⟨H0, H1, H2, H3, H4, H5⟩, Hs, ⟨%W', HO⟩⟩
  isplitl [Hb Hv Hs]
  · isplitl [Hb]; · iexact Hb
    isplitl [Hv]; · iexact Hv
    iexact Hs
  isplitl [HO]; · iapply (owes_to m c t0_0.succ 0 (owed_last m c) W'); iexact HO
  isplitl [H0]; · iexists _; isplitr; swap; (· iexact H0); ipureintro; dsimp only [dats]
  isplitl [H1]; · iexists _; isplitr; swap; (· iexact H1); ipureintro; dsimp only [dats]
  isplitl [H2]; · iexists _; isplitr; swap; (· iexact H2); ipureintro; dsimp only [dats]
  isplitl [H3]; · iexists _; isplitr; swap; (· iexact H3); ipureintro; dsimp only [dats]
  isplitl [H4]; · iexists _; isplitr; swap; (· iexact H4); ipureintro; dsimp only [dats]
  iexists _; isplitr; swap; (· iexact H5); ipureintro; dsimp only [dats]; rfl

end Cert.Halo

end
-- ==== Proof.Run.lean ====
/-
The run of `@main` on the four devices: two transposes, then the kernel's region, from any memory with zero counters.
-/
module

public import proofs.«01_k».proof.Proof.Launch

@[expose] public section

noncomputable section

namespace Cert.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The buffers no region scopes -/

def ucRefs : Finset (DevRef τ sig) := (StableHlo.tcRefs τ sig).filter fun b => ¬ b.isScoped

theorem held_eq (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

theorem regular_eq : ∀ sm : SemLoc sig, sm.isScoped .tc = false → sm = .reg barS := by decide

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, bigSep_singleton]

theorem ownSems0_eq (c : Dev nD) :
    (Pipeline.ownSems0 (Ix := Unit) (Name := ℕ) (U := UU) (Lvl := ℕ) (Val := Elt F) (τ := τ) osem c : sProp 𝕄)
      = iprop(semVal (sendCell 0 c) 0 ∗ semVal (sendCell 1 c) 0 ∗ semVal (sendCell 2 c) 0 ∗ semVal (sendCell 3 c) 0
        ∗ semVal (recvCell 0 c) 0 ∗ semVal (recvCell 1 c) 0 ∗ semVal (recvCell 2 c) 0 ∗ semVal (recvCell 3 c) 0) :=
  Pipeline.ownSems0_eq_of_list c osem [0, 1, 2, 3, 4, 5, 6, 7] (by decide) (by decide)

/-! ## The segments -/

abbrev adm : (p : Fin 1) → (pcfgs (F := F) p).Adm := fun p => (cfgs p).toPCfg_adm

/-- What rides beside the buffers up to the region. -/
def Rc (c : Dev nD) : sProp 𝕄 := iprop(((∃ K, ghost (kS m) (vS m) K c) ∗ creds c) ∗ ∃ W, owes (c : Thread nD τ) (O₀ c) W)

def seg0 : Pipeline.HostSeg (Name := ℕ) (U := UU) (pcfgs (F := F)) defs₀ 𝒱₀ L lv :=
  Pipeline.HostSeg.ofOps _ _ _ _ _ ucRefs hostOps0 (fun op h => sub_ucRefs op ((List.forall_iff_forall_mem.mp hostOps0_sub) op h))
    (List.forall_iff_forall_mem.mp hostOps0_fresh) (fun c b => m (c, b)) (Rc m)

/-- What the region leaves. -/
def Tend (c : Dev nD) : sProp 𝕄 :=
  iprop((dats m 0 c).arrays ((dats m 0 c).arrAt · cfg0.N)
    ∗ ((((c : Thread nD τ).loc main_arg2) ↦{fullShare} V m c main_arg2) ∗ (((c : Thread nD τ).loc main_arg3) ↦{fullShare} V m c main_arg3))
    ∗ semVal (barCell c) 0)

/-- The own eight cells opened, each with its counter at zero. -/
theorem open_cells (c : Dev nD) : iprop((∃ K, ghost (kS m) (vS m) K c) ∗ Pipeline.ownSems0 osem c)
    ⊢ (|={Set.univ}=> ∃ K, opened (kS m) (vS m) K c : sProp 𝕄) := by
  rw [ownSems0_eq]
  unfold ghost invs
  iintro ⟨⟨%K, ⟨⟨#Ib, ⟨#Is0, #Is1, #Is2, #Is3⟩, ⟨#Ir0, #Ir1, #Ir2, #Ir3⟩, #In⟩, HA, ⟨⟨So0, So1, So2, So3⟩, Ro0, Ro1, Ro2, Ro3⟩, #HR, HT⟩⟩, S0, S1, S2, S3, R0, R1, R2, R3⟩
  imod (Rounds.cell_open ER (rd (kS m) (vS m)) (g := sendCell 0 c) (Set.mem_univ (K (sendCell 0 c)))) $$ [So0 S0] with ⟨As0, #Hs0⟩
  · isplitr; · iexact Is0
    isplitl [So0] <;> iassumption
  imod (Rounds.cell_open ER (rd (kS m) (vS m)) (g := sendCell 1 c) (Set.mem_univ (K (sendCell 1 c)))) $$ [So1 S1] with ⟨As1, #Hs1⟩
  · isplitr; · iexact Is1
    isplitl [So1] <;> iassumption
  imod (Rounds.cell_open ER (rd (kS m) (vS m)) (g := sendCell 2 c) (Set.mem_univ (K (sendCell 2 c)))) $$ [So2 S2] with ⟨As2, #Hs2⟩
  · isplitr; · iexact Is2
    isplitl [So2] <;> iassumption
  imod (Rounds.cell_open ER (rd (kS m) (vS m)) (g := sendCell 3 c) (Set.mem_univ (K (sendCell 3 c)))) $$ [So3 S3] with ⟨As3, #Hs3⟩
  · isplitr; · iexact Is3
    isplitl [So3] <;> iassumption
  imod (Rounds.cell_open ER (rd (kS m) (vS m)) (g := recvCell 0 c) (Set.mem_univ (K (recvCell 0 c)))) $$ [Ro0 R0] with ⟨Ar0, #Hr0⟩
  · isplitr; · iexact Ir0
    isplitl [Ro0] <;> iassumption
  imod (Rounds.cell_open ER (rd (kS m) (vS m)) (g := recvCell 1 c) (Set.mem_univ (K (recvCell 1 c)))) $$ [Ro1 R1] with ⟨Ar1, #Hr1⟩
  · isplitr; · iexact Ir1
    isplitl [Ro1] <;> iassumption
  imod (Rounds.cell_open ER (rd (kS m) (vS m)) (g := recvCell 2 c) (Set.mem_univ (K (recvCell 2 c)))) $$ [Ro2 R2] with ⟨Ar2, #Hr2⟩
  · isplitr; · iexact Ir2
    isplitl [Ro2] <;> iassumption
  imod (Rounds.cell_open ER (rd (kS m) (vS m)) (g := recvCell 3 c) (Set.mem_univ (K (recvCell 3 c)))) $$ [Ro3 R3] with ⟨Ar3, #Hr3⟩
  · isplitr; · iexact Ir3
    isplitl [Ro3] <;> iassumption
  imodintro
  iexists K
  unfold opened invs
  isplitr
  · isplitr; · iexact Ib
    isplitr
    · isplitr; · iexact Is0
      isplitr; · iexact Is1
      isplitr; · iexact Is2
      iexact Is3
    isplitr
    · isplitr; · iexact Ir0
      isplitr; · iexact Ir1
      isplitr; · iexact Ir2
      iexact Ir3
    iexact In
  isplitl [HA]; · iexact HA
  isplitl [As0 As1 As2 As3 Ar0 Ar1 Ar2 Ar3]
  · isplitl [As0 As1 As2 As3]
    · isplitl [As0]; · iexact As0
      isplitl [As1]; · iexact As1
      isplitl [As2] <;> iassumption
    isplitl [Ar0]; · iexact Ar0
    isplitl [Ar1]; · iexact Ar1
    isplitl [Ar2] <;> iassumption
  isplitr; · iexact HR
  isplitr
  · isplitr
    · isplitr; · iexact Hs0
      isplitr; · iexact Hs1
      isplitr; · iexact Hs2
      iexact Hs3
    isplitr; · iexact Hr0
    isplitr; · iexact Hr1
    isplitr; · iexact Hr2
    iexact Hr3
  iexact HT

theorem ownSemFacts : Pipeline.OwnSemFacts spec0 osem := by decide

theorem stage_level : ∀ (w : Fin cfg0.W) (s : Fin (cfg0.win w).nbuf), lvOf (.dma ((cfg0.win w).sem s)) = 0 := by decide

theorem owed_level (c : Dev nD) (t : Fin (cfg0.N + 1)) (g : GSem nD τ sig) (i : Unit) (h : 0 < (dats m 0 c).owed t g i) : i ∈ L g ∧ 0 < lv g i := by
  have e : (dats m 0 c).owed t = if t.val = 0 then O₀ c else 0 := rfl
  rw [e] at h
  split at h
  · rcases O₀_pos h with ⟨k, d, rfl⟩ | ⟨d, rfl⟩
    · exact ⟨by rw [L_tc]; exact Finset.mem_singleton_self _, by rw [lv_recv]; decide⟩
    · exact ⟨by rw [L_tc]; exact Finset.mem_singleton_self _, by rw [lv_bar]; decide⟩
  · exact absurd h (Nat.lt_irrefl 0)

set_option backward.isDefEq.respectTransparency.types false in
/-- The kernel's region. -/
def reg0 : Pipeline.RegionSeg (pcfgs (F := F)) adm (dats m) () defs₀ 𝒱₀ L lv 0 where
  win := launch0.win.to₀
  block_pos := launch0.block_pos
  stage_whole := launch0.stage_whole
  K := Fin 8
  osem := osem
  ho := ownSemFacts
  hbody c := (body_obligation m c).loose
  hwaits c := Pipeline.cellsWaits_intro _ (dats m) () 0 c fun w s t =>
    MayOwe.of_cut 0 (fun q hq => by rw [Finset.mem_singleton.mp hq, L_tc]; exact Finset.mem_singleton_self _)
      (fun g i hg => (owed_level m c t g i hg).1)
      (fun q hq => by rw [Finset.mem_singleton.mp hq]; exact Nat.le_of_eq (stage_level w s))
      (fun g i hg => (owed_level m c t g i hg).2)
  pre c := iprop(StableHlo.held (c : Thread nD τ) ucRefs (StableHlo.after hostOps0 (fun b => m (c, b))) ∗ Rc m c)
  post c := iprop(Tend m c ∗ ∃ W, owes (c : Thread nD τ) (0 : CellTallies nD τ sig Unit) W)
  X c := Xc m c
  Y c := semVal (barCell c) 0
  Z c := iprop((((c : Thread nD τ).loc main_arg2) ↦{fullShare} V m c main_arg2) ∗ (((c : Thread nD τ).loc main_arg3) ↦{fullShare} V m c main_arg3))
  hentry c := by
    rw [show StableHlo.held (c : Thread nD τ) ucRefs (StableHlo.after hostOps0 (fun b => m (c, b))) = unscopedBufs c (V m c) from (held_eq c _).symm]
    have hsplit := (Pipeline.arrays_of_unscopedBufs (pcfgs (F := F)) adm (dats m) launch0.win launch0.arr_whole c
      ((dats m 0 c).share_full fun _ => rfl) (V m c) (A_eq m c)).trans (sep_mono .rfl (Entails.of_eq (unscopedRest0_eq c (V m c))))
    unfold Rc Xc
    iintro ⟨⟨Hub, ⟨Hg, Hc⟩, ⟨%W, HO⟩⟩, Hos, #Hl⟩
    imod (open_cells m c) $$ [Hg Hos] with Hop
    · isplitl [Hg] <;> iassumption
    ihave H := hsplit $$ Hub
    icases H with ⟨Ha, H2, H3⟩
    imodintro
    isplitl [Ha]; · iexact Ha
    isplitr; · unfold Pipeline.prefHeld; rw [show (Finset.univ : Finset (Fin 0)) = ∅ from rfl, BI.bigSep_empty]; iempintro
    isplitl [HO]; · iapply (owes_to m c 0 (O₀ c) rfl W); iexact HO
    isplitl [Hop Hc]
    · isplitl [Hop]; · iexact Hop
      isplitl [Hc]; · iexact Hc
      iexact Hl
    isplitl [H2] <;> iassumption
  hin c := by
    rw [show (dats m 0 c).Φ 0 = iprop(Xc m c ∗ scratch c) from rfl]; unfold scratch
    iintro ⟨HX, -, Hr⟩
    isplitl [HX] <;> iassumption
  hout c := by
    rw [ownSems0_eq, show (dats m 0 c).Φ (Fin.last cfg0.N) = iprop(semVal (barCell c) 0 ∗ sems c ∗ scratch c) from rfl]; unfold scratch sems
    iintro ⟨Hb, ⟨⟨S0, S1, S2, S3⟩, R0, R1, R2, R3⟩, Hr⟩
    isplitl [Hb]; · iexact Hb
    isplitr [Hr]
    · isplitl [S0]; · iexact S0
      isplitl [S1]; · iexact S1
      isplitl [S2]; · iexact S2
      isplitl [S3]; · iexact S3
      isplitl [R0]; · iexact R0
      isplitl [R1]; · iexact R1
      isplitl [R2] <;> iassumption
    iexact Hr
  hexit c := by
    unfold Tend
    iintro ⟨Ha, HO, Hb, HZ⟩
    imodintro
    isplitr [HO]
    · isplitl [Ha]; · iexact Ha
      isplitl [HZ] <;> iassumption
    iapply (owes_of m c _ 0 (owed_last m c)); iexact HO

abbrev segs : List (Pipeline.Seg (pcfgs (F := F)) adm (dats m) () defs₀ 𝒱₀ L lv) := [.host (seg0 m), .region (reg0 m)]

/-! ## The start -/

/-- The launch element: the pipeline library's, beside the protocol's cells and tokens. -/
def u₀ : UU := (initOf (Pipeline.cells cfgs cellOf_inj) (Pipeline.launchToks cfgs cellOf_inj), launchOf barCells dmaCells duties)

/-- The protocol's part, kept on the first device until it is dealt. -/
def G (c : Dev nD) : sProp 𝕄 := if c = 0 then BI.own (ER (launchOf barCells dmaCells duties)) else iprop(emp)

theorem G_eq : bigSep Finset.univ (G (F := F)) = BI.own (ER (launchOf barCells dmaCells duties)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

abbrev Tstart (c : Dev nD) : sProp 𝕄 := iprop(StableHlo.held (c : Thread nD τ) ucRefs (fun b => m (c, b)) ∗ Rc m c)

/-- A device's own holdings, beside the protocol. -/
def plain (c : Dev nD) : sProp 𝕄 := iprop(StableHlo.held (c : Thread nD τ) ucRefs (fun b => m (c, b)) ∗ creds c ∗ owes (c : Thread nD τ) (O₀ c) ∅)

theorem start_of (κ : GSem nD τ sig → ℕ) (c : Dev nD) : iprop(records (kS m) (vS m) κ ∗ (alone c ∗ plain m c)) ⊢ Tstart m c := by
  unfold plain Tstart Rc
  iintro ⟨#HR, Hl, Hh, Hc, HO⟩
  isplitl [Hh]; · iexact Hh
  isplitr [HO]
  · isplitl [Hl]
    · iexists κ
      iapply (ghost_intro (kS m) (vS m) κ c)
      isplitr; · iexact HR
      iexact Hl
    iexact Hc
  iexists ∅; iexact HO

theorem split_all (Φ Ψ : Dev nD → sProp 𝕄) : bigSep Finset.univ (fun c => iprop(Φ c ∗ Ψ c)) ⊢ iprop(bigSep Finset.univ Φ ∗ bigSep Finset.univ Ψ) :=
  Entails.of_eq (bigSep_sep' _ Φ Ψ)
theorem join_all (Φ Ψ : Dev nD → sProp 𝕄) : iprop(bigSep Finset.univ Φ ∗ bigSep Finset.univ Ψ) ⊢ bigSep Finset.univ (fun c => iprop(Φ c ∗ Ψ c)) :=
  Entails.of_eq (bigSep_sep' _ Φ Ψ).symm

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (Tstart m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(plain m c ∗ (semVal (barCell c) 0 ∗ G c)) : sProp 𝕄) := by
    rw [show unscopedBufs c (fun b => m ((c : Thread nD τ).loc b)) = StableHlo.held (c : Thread nD τ) ucRefs (fun b => m (c, b)) from held_eq c (fun b => m (c, b)),
      unscopedSems0_eq]
    unfold plain
    iintro ⟨Hh, Hus, HO, Hcr, -, HG⟩
    ihave Hc := (creds_intro (F := F) c) $$ Hcr
    isplitl [Hh Hc HO]
    · isplitl [Hh]; · iexact Hh
      isplitl [Hc] <;> iassumption
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep dmaCells (fun g => (openTok ER g : sProp 𝕄)) ⊢ bigSep Finset.univ (fun c : Dev nD => each (fun c g => openTok ER (g c)) c) := by
    rw [bigSep_map, bigSep_univ_prod]
    refine bigSep_mono fun c _ => ?_
    rw [bigSep_univ_eq_bigSepL [(0 : Fin 8), 1, 2, 3, 4, 5, 6, 7] (by decide) (by decide)]
    show iprop(openTok ER (sendCell 0 c) ∗ openTok ER (sendCell 1 c) ∗ openTok ER (sendCell 2 c) ∗ openTok ER (sendCell 3 c)
      ∗ openTok ER (recvCell 0 c) ∗ openTok ER (recvCell 1 c) ∗ openTok ER (recvCell 2 c) ∗ openTok ER (recvCell 3 c)) ⊢ _
    iintro ⟨S0, S1, S2, S3, R0, R1, R2, R3⟩
    isplitl [S0 S1 S2 S3]
    · isplitl [S0]; · iexact S0
      isplitl [S1]; · iexact S1
      isplitl [S2] <;> iassumption
    isplitl [R0]; · iexact R0
    isplitl [R1]; · iexact R1
    isplitl [R2] <;> iassumption
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(plain m c ∗ (semVal (barCell c) 0 ∗ G c)) : sProp 𝕄) from bigSep_mono fun c _ => hcore c) $$ H
  ihave H2 := (split_all _ _) $$ H'; icases H2 with ⟨HB, H3⟩
  ihave H4 := (split_all _ _) $$ H3; icases H4 with ⟨Hv, HG⟩
  ihave Hu := (Entails.of_eq (G_eq (F := F))) $$ HG
  imod (Rounds.fund_launch ER (rd (kS m) (vS m)) cells_disjoint (fun g _ h => h) duties) $$ [Hv Hu] with ⟨%κ, -, #Hinv, #Hr, Hat, Hopen, Htok⟩
  · isplitl [Hv]
    · iapply hv $$ Hv
    · iexact Hu
  imodintro
  iapply (bigSep_with_persistent (R := records (kS m) (vS m) κ) (Φ := fun c => iprop(alone c ∗ plain m c)) fun c _ => start_of m κ c)
  isplitr
  · unfold records
    isplitr; · iexact Hinv
    iexact Hr
  iapply (join_all _ _)
  isplitr [HB]
  · unfold alone
    iapply (join_all _ _); isplitl [Hat]; · iapply hat $$ Hat
    iapply (join_all _ _); isplitl [Hopen]; · iapply hopen $$ Hopen
    iapply (toks_around (F := F))
    iapply (Entails.of_eq (duties_eq (F := F))) $$ Htok
  · iexact HB

/-! ## The run -/

set_option backward.isDefEq.respectTransparency.types false in
/-- From any memory with zero counters, every weakly fair execution of `@main` on the four devices ends, with every
    window's array at the contents the proof data give, the other two arguments as they were, and every counter at zero. -/
theorem run_main : θ_run defs (onTc (τ := τ) (main (F := F))) (s₀ m ρ)
    (fun r => (∀ c : Dev nD, (∀ w : Fin cfg0.W, r.2.mem ((cfg0.win w).arr.view.loc (c : Thread nD τ)) = (dats m 0 c).arrAt w cfg0.N)
        ∧ r.2.mem ((c : Thread nD τ).loc main_arg2) = V m c main_arg2 ∧ r.2.mem ((c : Thread nD τ).loc main_arg3) = V m c main_arg3)
      ∧ r.2.sem = fun _ => 0) :=
  Pipeline.θ_run_regions_kit_sems (pcfgs (F := F)) adm (dats m) () cellOf_inj EP defs₀ 𝒱₀ L lv m ρ main (segs m)
    (fun c Q => by rw [main_segs adm (dats m) () 𝒱₀ L lv (seg0 m) (reg0 m) rfl c])
    (by simp only [Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_eq]; iexact HX)
    (T₀ := Tstart m) (Tₙ := Tend m)
    (hch := ⟨fun _ => .rfl, fun _ => .rfl, fun _ => .rfl⟩)
    (hinit := init m ρ)
    (QY := fun c s => ((∀ w : Fin cfg0.W, s.mem ((cfg0.win w).arr.view.loc (c : Thread nD τ)) = (dats m 0 c).arrAt w cfg0.N)
        ∧ s.mem ((c : Thread nD τ).loc main_arg2) = V m c main_arg2 ∧ s.mem ((c : Thread nD τ).loc main_arg3) = V m c main_arg3)
      ∧ s.sem (barCell c) = 0)
    (hfin := fun c s' => by
      unfold Tend
      iintro ⟨⟨Ha, ⟨H2, H3⟩, Hb⟩, HSI⟩
      icombine HSI H2 gives %h2
      icombine HSI H3 gives %h3
      icombine HSI Hb gives %hb
      ihave Hr := (Pipeline.arrays_read (pcfgs (F := F)) adm (dats m) launch0.arr_whole c ((dats m 0 c).share_full fun _ => rfl) _ s') $$ [Ha HSI]
      · isplitl [Ha] <;> iassumption
      icases Hr with ⟨%ha, HSI⟩
      imodintro
      isplitr
      · ipureintro
        exact ⟨⟨ha, Buf.eq_of_forall_mem_univ h2, Buf.eq_of_forall_mem_univ h3⟩, by simpa using hb⟩
      iexact HSI)
    (hQ := fun s h hs => ⟨fun c => (h c).1, sem_eq_zero hs fun c sm hsm => by
        obtain rfl := regular_eq sm hsm
        exact (h c).2⟩)

end Cert.Halo

end
-- ==== Proof.Plain.lean ====
/-
The kernel before its constants are named is the named program at the plain float words: a name then stands for
nothing but the word it was given with.
-/
module

public import proofs.«01_k».proof.Proof.Run
public import proofs.«01_k».proof.Proof.Gen.Kernel
public import proofs.«01_k».proof.Defs

@[expose] public section

noncomputable section

namespace Cert.Halo.Plain

open Idealize.ShloMosaic Idealize.SL.Sem

/-- At plain float words a named constant is its word. -/
instance named : Named Bits := ⟨fun _ _ {φ} bits => FloatOps.ofBits φ bits⟩

theorem main_eq : Cert.Kernel.main (F := Bits) = Cert.KernelIdeal.main (F := Bits) := rfl

set_option maxHeartbeats 4000000 in
theorem body_eq : @Cert.Kernel.cc0_body Bits _ _ = @Cert.KernelIdeal.cc0_body Bits _ _ _ := rfl

set_option maxHeartbeats 4000000 in
theorem defs₀_eq : Cert.Kernel.defs₀ (F := Bits) = Cert.KernelIdeal.defs₀ (F := Bits) := by
  unfold Cert.Kernel.defs₀ Cert.KernelIdeal.defs₀
  congr 1
  funext l x
  match l, x with
  | 0, (t, s) =>
    change @Cert.Kernel.cc0_body Bits _ _ _ _ _ _ _ _ _ _ _ _ _ _ _ _ _ _ _ _ _ _ _ _ _ _ _ _ _ _ _ _ = @Cert.KernelIdeal.cc0_body Bits _ _ _ _ _ _ _ _ _ _ _ _ _ _ _ _ _ _ _ _ _ _ _ _ _ _ _ _ _ _ _ _ _
    rw [body_eq]

set_option maxHeartbeats 4000000 in
theorem defs_eq : Cert.Kernel.defs (F := Bits) = Cert.KernelIdeal.defs (F := Bits) := by
  unfold Cert.Kernel.defs Cert.KernelIdeal.defs
  exact congrArg (Pipeline.defs _) defs₀_eq

end Cert.Halo.Plain
-- ==== Proof.Frames.lean ====
/-
What the run leaves: the five argument arrays as they were, every counter at zero; for the kernel at plain float words
and at the extended reals, and for the reference.
-/
module

public import proofs.«01_k».proof.Proof.Plain
public import proofs.«01_k».proof.Proof.Gen.ReferenceIdeal.Run
public import Idealize.ShloMosaic.Lib.Quiescent

@[expose] public section

noncomputable section

namespace Cert.Halo

open Cert.KernelIdeal Cert.KernelIdeal.Gen
open Idealize.ShloMosaic Idealize.ShloMosaic.TcCoe Idealize.SL.Sem

variable {F : FTy → Type} [FloatOps F] [Named F]
variable (m : (ℓ : Loc nD τ sig) → Buf (Elt F) ℓ) (ρ : Dev nD → PrngReg)

/-- What the run leaves in the argument arrays, in the result, and in the counters. -/
theorem run_frame : θ_run (defs (F := F)) (onTc (τ := τ) (main (F := F))) ⟨m, fun _ => 0, ρ⟩ (fun r =>
    (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v3) = (dats m 0 c).arrAt 5 cfg0.N)
    ∧ r.2.sem = fun _ => 0) := by
  refine (θ_run _ _ _).mono (fun r h => ⟨fun c => ?_, h.2⟩) (run_main m ρ)
  obtain ⟨hw, h2, h3⟩ := h.1 c
  refine ⟨?_, ?_, h2.trans (V_main_arg2 m c), h3.trans (V_main_arg3 m c), ?_, hw 5⟩
  · exact (hw 0).trans (((dats m 0 c).arrAt_in 0 rfl _).trans ((A_eq m c 0).trans (V_main_arg0 m c)))
  · exact (hw 1).trans (((dats m 0 c).arrAt_in 1 rfl _).trans ((A_eq m c 1).trans (V_main_arg1 m c)))
  · exact (hw 4).trans (((dats m 0 c).arrAt_in 4 rfl _).trans ((A_eq m c 4).trans (V_main_arg4 m c)))

theorem frame_ideal : Cert.quiescent_KernelIdeal := fun m g _ =>
  (θ_run _ _ _).mono (fun _ h => ⟨fun c => ⟨(h.1 c).1, (h.1 c).2.1, (h.1 c).2.2.1, (h.1 c).2.2.2.1, (h.1 c).2.2.2.2.1⟩, h.2⟩)
    (run_frame m g)

theorem frame_plain : Cert.quiescent_Kernel := fun m g _ => by
  rw [Plain.defs_eq, Plain.main_eq]
  exact (θ_run _ _ _).mono (fun _ h => ⟨fun c => ⟨(h.1 c).1, (h.1 c).2.1, (h.1 c).2.2.1, (h.1 c).2.2.2.1, (h.1 c).2.2.2.2.1⟩, h.2⟩)
    (run_frame (F := Bits) m g)

theorem frame_ref : Cert.quiescent_ReferenceIdeal := fun m g _ =>
  (θ_run _ _ _).mono (fun r h => ⟨fun c => (h c).2, sem_eq_zero_of_no_sems rfl r.2⟩) (Cert.ReferenceIdeal.Value.run m g)

end Cert.Halo
-- ==== Proof.Whole.lean ====
/-
What the region is entered with and what it leaves, as whole arrays: the keys and values with their columns last, the
other operands as launched, and the result array at the body's result.
-/
module

public import proofs.«01_k».proof.Proof.Launch
public import Idealize.ShloMosaic.Lib.Pointwise
public import Idealize.ShloMosaic.Lib.Pipeline.ValueKit

@[expose] public section

noncomputable section

namespace Cert.Halo

open Cert.KernelIdeal Cert.KernelIdeal.Gen
open Idealize.ShloMosaic Idealize.ShloMosaic.TcCoe Idealize.SL.Sem
open Idealize.ShloMosaic.Pipeline (Dat Cfg Window)

variable {F : FTy → Type} [FloatOps F] [Named F]
variable (m : (ℓ : Loc nD τ sig) → Buf (Elt F) ℓ)

theorem V_keys (c : Dev nD) : V m c main_v1
    = transpose S2x8x64x512 [0, 2, 3, 1] (m ((c : Thread nD τ).loc main_arg2)) transposes_S2x512x8x64_S2x8x64x512_0_2_3_1 := by
  show StableHlo.after hostOps0 (fun b => m (c, b)) (Proc.devRef .tc main_v1) = _
  simp only [hostOps0]
  after_results_simp <;> rfl

theorem V_vals (c : Dev nD) : V m c main_v2
    = transpose S2x8x64x512 [0, 2, 3, 1] (m ((c : Thread nD τ).loc main_arg3)) transposes_S2x512x8x64_S2x8x64x512_0_2_3_1 := by
  show StableHlo.after hostOps0 (fun b => m (c, b)) (Proc.devRef .tc main_v2) = _
  simp only [hostOps0]
  after_results_simp <;> rfl

/-- The one block of a window is its whole array. -/
theorem whole0 (c : Dev nD) : xS m c = V m c main_arg0 := by
  have e : ∀ a, win0_0.index t0_0 a = 0 := by decide +kernel
  funext i; unfold xS; blk_simp [iblk]; congr 1; blk_ext [e]
theorem whole1 (c : Dev nD) : wqS m c = V m c main_arg1 := by
  have e : ∀ a, win0_1.index t0_0 a = 0 := by decide +kernel
  funext i; unfold wqS; blk_simp [iblk]; congr 1; blk_ext [e]
theorem whole2 (c : Dev nD) : kS m c = V m c main_v1 := by
  have e : ∀ a, win0_2.index t0_0 a = 0 := by decide +kernel
  funext i; unfold kS; blk_simp [iblk]; congr 1; blk_ext [e]
theorem whole3 (c : Dev nD) : vS m c = V m c main_v2 := by
  have e : ∀ a, win0_3.index t0_0 a = 0 := by decide +kernel
  funext i; unfold vS; blk_simp [iblk]; congr 1; blk_ext [e]
theorem whole4 (c : Dev nD) : woS m c = V m c main_arg4 := by
  have e : ∀ a, win0_4.index t0_0 a = 0 := by decide +kernel
  funext i; unfold woS; blk_simp [iblk]; congr 1; blk_ext [e]

theorem kS_at (c : Dev nD) (b : Fin 2) (h : Fin 8) (d : Fin 64) (s : Fin 512) :
    kS m c (ix4 b h d s) = (m ((c : Thread nD τ).loc main_arg2) : S2x512x8x64.Idx → F .f32) (ix4 b s h d) := by
  rw [whole2, V_keys]
  pointwise []

theorem vS_at (c : Dev nD) (b : Fin 2) (h : Fin 8) (d : Fin 64) (s : Fin 512) :
    vS m c (ix4 b h d s) = (m ((c : Thread nD τ).loc main_arg3) : S2x512x8x64.Idx → F .f32) (ix4 b s h d) := by
  rw [whole3, V_vals]
  pointwise []

theorem final (c : Dev nD) : (dats m 0 c).arrAt 5 cfg0.N = oS m c := by
  funext i
  refine ((dats m 0 c).arrAt_emb_eq_after_last 5 t0_0 (by decide +kernel) i).trans ?_
  blk_simp
  rfl

end Cert.Halo
-- ==== Proof.Model.lean ====
/-
The attention written once over the extended reals, by indices: query rows, scores times an eighth, weights that are
zero where the query and the key are more than 128 apart, the weighted mean of the values, and the output projection.
-/
module

public import Idealize.ShloMosaic.PureOps.Ideal
public import Idealize.ShloMosaic.Lib.Pointwise
public import Idealize.ShloMosaic.Lib.Affine

@[expose] public section

noncomputable section

namespace Cert.Halo

open Idealize.ShloMosaic

/-- A query and a key at most 128 apart. -/
abbrev Near (i j : Fin 2048) : Prop := i.val ≤ j.val + 128 ∧ j.val ≤ i.val + 128

/-- Element `d` of head `h` among the 512 columns. -/
abbrev hd (h : Fin 8) (d : Fin 64) : Fin 512 := ⟨64 * h.val + d.val, by omega⟩

section
variable (x : (⟨3, ![2, 2048, 768]⟩ : Shape).Idx → EReal) (wq : (⟨2, ![768, 512]⟩ : Shape).Idx → EReal)
  (k v : (⟨4, ![2, 2048, 8, 64]⟩ : Shape).Idx → EReal) (wo : (⟨2, ![512, 768]⟩ : Shape).Idx → EReal)

def query (b : Fin 2) (i : Fin 2048) (h : Fin 8) (d : Fin 64) : EReal := ∑ e : Fin 768, x (ix3 b i e) * wq (ix2 e (hd h d))
def score (b : Fin 2) (h : Fin 8) (i j : Fin 2048) : EReal :=
  (∑ d : Fin 64, query x wq b i h d * k (ix4 b j h d)) * Ideal.ofBits .f32 0x3E000000#32
def weight (b : Fin 2) (h : Fin 8) (i j : Fin 2048) : EReal := if Near i j then Ideal.exp (score x wq k b h i j) else 0
def mean (b : Fin 2) (i : Fin 2048) (h : Fin 8) (d : Fin 64) : EReal :=
  Ideal.div (∑ j, weight x wq k b h i j * v (ix4 b j h d)) (∑ j, weight x wq k b h i j)
def result (b : Fin 2) (i : Fin 2048) (e : Fin 768) : EReal :=
  ∑ u : Fin 512, mean x wq k v b i ⟨u.val / 64, by omega⟩ ⟨u.val % 64, by omega⟩ * wo (ix2 u e)
end

/-! ## The words of the masks -/

theorem ofNat_toInt {n : Nat} (h : n < 2 ^ 30) : (BitVec.ofNat 32 n).toInt = n := by
  rw [BitVec.toInt_ofNat', Int.bmod_eq_of_le] <;> omega

/-- A word within 128 of zero, as the masks find it. -/
theorem abs_le (w : BitVec 32) (z : Int) (hz : w.toInt = z) (hb : -2 ^ 30 < z) :
    IntOp.cmpi .sle (IntOp.absi w) 128#32 = 1#1 ↔ -128 ≤ z ∧ z ≤ 128 := by
  rw [IntOp.cmpi_sle]
  unfold IntOp.absi
  have e : (128#32 : BitVec 32).toInt = 128 := by decide
  have hu : w.toInt < 2 ^ 31 := by have := @BitVec.toInt_lt 32 w; omega
  rw [BitVec.msb_eq_toInt, e]
  by_cases h : w.toInt < 0
  · rw [if_pos (by simpa using h), BitVec.toInt_neg, Int.bmod_eq_of_le (by omega) (by omega)]; omega
  · rw [if_neg (by simpa using h)]; omega

theorem near_word (i j : Nat) (hi : i < 2048) (hj : j < 2048) :
    IntOp.cmpi .sle (IntOp.absi (IntOp.subi (BitVec.ofNat 32 i) (BitVec.ofNat 32 j))) 128#32 = 1#1 ↔ i ≤ j + 128 ∧ j ≤ i + 128 := by
  rw [abs_le _ (i - j : Int) _ (by omega)]
  · omega
  · unfold IntOp.subi
    rw [BitVec.toInt_sub, ofNat_toInt (by omega), ofNat_toInt (by omega), Int.bmod_eq_of_le (by omega) (by omega)]

theorem band_word (r t : Nat) (hr : r < 128) (ht : t < 384) :
    IntOp.cmpi .sle (IntOp.absi (IntOp.addi (IntOp.subi (BitVec.ofNat 32 r) (BitVec.ofNat 32 t)) 128#32)) 128#32 = 1#1
      ↔ r ≤ t ∧ t ≤ r + 256 := by
  rw [abs_le _ (r - t + 128 : Int) _ (by omega)]
  · omega
  · unfold IntOp.addi IntOp.subi
    rw [BitVec.toInt_add, BitVec.toInt_sub, ofNat_toInt (by omega), ofNat_toInt (by omega), Int.bmod_eq_of_le (n := (r : Int) - t) (by omega) (by omega),
      show (128#32 : BitVec 32).toInt = 128 by decide, Int.bmod_eq_of_le (by omega) (by omega)]

theorem select_eq {α : Type} (c : BitVec 1) (P : Prop) [Decidable P] (h : c = 1#1 ↔ P) (a b : α) :
    Scalar.select c a b = if P then a else b := by
  by_cases hp : P
  · rw [if_pos hp, h.mpr hp]; rfl
  · rw [if_neg hp]
    have : c ≠ 1#1 := fun e => hp (h.mp e)
    exact if_neg this

theorem ofBits_bot : Ideal.ofBits .f32 0xFF800000#32 = ⊥ := by simp [Ideal.ofBits, Ideal.ieee]

theorem eighth : ∃ r : ℝ, Ideal.ofBits .f32 0x3E000000#32 = r := by
  have h : Ideal.ofBits .f32 0x3E000000#32 ≠ ⊥ ∧ Ideal.ofBits .f32 0x3E000000#32 ≠ ⊤ := by
    simp only [Ideal.ofBits, Ideal.ieee]
    exact ⟨by simp [← EReal.coe_mul], by simp [← EReal.coe_mul]⟩
  exact ⟨_, (EReal.coe_toReal h.2 h.1).symm⟩

end Cert.Halo
-- ==== Proof.At.lean ====
/-
The pieces of the body read at an index, over the extended reals: one head's attention, the query rows, the three kinds
of windows, the masks, the projection, and what lands from the neighbours.
-/
module

public import proofs.«01_k».proof.Proof.Model
public import proofs.«01_k».proof.Proof.Output
public import proofs.«01_k».proof.Proof.Proto

@[expose] public section

noncomputable section

namespace Cert.Halo

open Cert.KernelIdeal Cert.KernelIdeal.Gen
open Idealize.ShloMosaic Idealize.ShloMosaic.TcCoe

/-! ## One head -/

theorem named_bot : (Named.named (F := Ideal) (φ := .f32) κ "mask" 0xCE6E6B28#32) = ⊥ := rfl

/-- The weight the kernel gives a window's column `t` in row `r`, where `P` says the mask keeps it. -/
def wgt (q : FVec Ideal S128x64 .f32) (k : FVec Ideal S64x384 .f32) (r : Fin 128) (P : Fin 384 → Prop) [DecidablePred P] (t : Fin 384) : EReal :=
  if P t then Ideal.exp ((∑ d : Fin 64, q (ix2 r d) * k (ix2 d t)) * Ideal.ofBits .f32 0x3E000000#32) else 0

theorem weights_at (mask : IVec S128x384 1) (q : FVec Ideal S128x64 .f32) (k : FVec Ideal S64x384 .f32) (r : Fin 128) (t : Fin 384)
    (P : Fin 384 → Prop) [DecidablePred P] (hm : mask (ix2 r t) = 1#1 ↔ P t) : weights mask q k (ix2 r t) = wgt q k r P t := by
  have e : weights mask q k (ix2 r t) = Ideal.exp (Scalar.select (mask (ix2 r t))
      ((∑ d : Fin 64, q (ix2 r d) * k (ix2 d t)) * Ideal.ofBits .f32 0x3E000000#32) (Named.named (F := Ideal) (φ := .f32) κ "mask" 0xCE6E6B28#32)) := by
    pointwise [weights, scores]
  rw [e, select_eq _ _ hm, wgt]
  by_cases h : P t
  · rw [if_pos h, if_pos h]
  · rw [if_neg h, if_neg h, named_bot, Ideal.exp_bot]

theorem att_at (mask : IVec S128x384 1) (q : FVec Ideal S128x64 .f32) (k v : FVec Ideal S64x384 .f32) (r : Fin 128) (d : Fin 64)
    (P : Fin 384 → Prop) [DecidablePred P] (hm : ∀ t, mask (ix2 r t) = 1#1 ↔ P t) :
    att mask q k v (ix2 r d) = Ideal.div (∑ t, wgt q k r P t * v (ix2 d t)) (∑ t, wgt q k r P t) := by
  have e : att mask q k v (ix2 r d) = Ideal.div (∑ t, weights mask q k (ix2 r t) * v (ix2 d t)) (∑ t, weights mask q k (ix2 r t)) := by
    pointwise [att]
  rw [e]
  simp only [weights_at mask q k r _ P (hm _)]

/-! ## Operands -/

theorem qAt_at (x : Vec Ideal S2x512x768 .f32) (wq : Vec Ideal S768x512 .f32) (b : Fin 2) (n : Fin 4) (h : Fin 8) (r : Fin 128) (d : Fin 64) :
    qAt (F := Ideal) (k0_pay5 (F := Ideal) x wq) b n h (ix2 r d)
      = ∑ e : Fin 768, x (ix3 b ⟨128 * n.val + r.val, by omega⟩ e) * wq (ix2 e (hd h d)) := by
  have e : (⟨128 * n.val + r.val, by omega⟩ : Fin 512) = ⟨(512 * b.val + 128 * n.val + r.val) % 512, Nat.mod_lt _ (by decide)⟩ := Fin.ext (by dsimp only; omega)
  rw [e]
  pointwise [qAt, k0_pay5]

theorem winMid_at (k : FVec Ideal S2x8x64x512 .f32) (b : Fin 2) (n : Fin 2) (h : Fin 8) (d : Fin 64) (t : Fin 384) :
    winMid (F := Ideal) (k0_pay7 (F := Ideal) k) b n h (ix2 d t) = k (ix4 b h d ⟨128 * n.val + t.val, by omega⟩) := by
  pointwise [winMid, k0_pay7]

theorem winLo_at (k : FVec Ideal S2x8x64x512 .f32) (l : FVec Ideal S2x8x64x128 .bf16) (b : Fin 2) (h : Fin 8) (d : Fin 64) (t : Fin 384) :
    winLo (F := Ideal) (k0_pay7 (F := Ideal) k) (extf .f32 l bitsLt_bf16_f32) b h (ix2 d t)
      = if ht : t.val < 128 then l (ix4 b h d ⟨t.val, ht⟩) else k (ix4 b h d ⟨t.val - 128, by omega⟩) := by
  pointwise [winLo, halo, edge, k0_pay7]

theorem winHi_at (k : FVec Ideal S2x8x64x512 .f32) (l : FVec Ideal S2x8x64x128 .bf16) (b : Fin 2) (h : Fin 8) (d : Fin 64) (t : Fin 384) :
    winHi (F := Ideal) (k0_pay7 (F := Ideal) k) (extf .f32 l bitsLt_bf16_f32) b h (ix2 d t)
      = if ht : t.val < 256 then k (ix4 b h d ⟨256 + t.val, by omega⟩) else l (ix4 b h d ⟨t.val - 256, by omega⟩) := by
  pointwise [winHi, halo, edge, k0_pay7]

/-! ## What lands -/

theorem sent_lo (kk : Dev nD → Vec Ideal S2x8x64x512 .f32) (c : Dev nD) (b : Fin 2) (h : Fin 8) (d : Fin 64) (t : Fin 128) :
    sv0 (F := Ideal) kk c (ix4 b h d t) = kk c (ix4 b h d ⟨t.val, by omega⟩) := by
  pointwise [sv0, k0_pay1]
  refine congrArg (kk c) (funext fun a => Fin.ext ?_)
  match a with
  | 0 => show 0 + 1 * b.val = b.val; omega
  | 1 => show 0 + 1 * h.val = h.val; omega
  | 2 => show 0 + 1 * d.val = d.val; omega
  | 3 => show 0 + 1 * t.val = t.val; omega

theorem sent_hi (kk : Dev nD → Vec Ideal S2x8x64x512 .f32) (c : Dev nD) (b : Fin 2) (h : Fin 8) (d : Fin 64) (t : Fin 128) :
    sv2 (F := Ideal) kk c (ix4 b h d t) = kk c (ix4 b h d ⟨384 + t.val, by omega⟩) := by
  pointwise [sv2, k0_pay3]
  refine congrArg (kk c) (funext fun a => Fin.ext ?_)
  match a with
  | 0 => show 0 + 1 * b.val = b.val; omega
  | 1 => show 0 + 1 * h.val = h.val; omega
  | 2 => show 0 + 1 * d.val = d.val; omega
  | 3 => show 384 + 1 * t.val = 384 + t.val; omega

/-! ## Masks -/

theorem band_at (r : Fin 128) (t : Fin 384) : band (ix2 r t) = 1#1 ↔ r.val ≤ t.val ∧ t.val ≤ r.val + 256 := by
  have e : band (ix2 r t) = IntOp.cmpi .sle (IntOp.absi (IntOp.addi (IntOp.subi (BitVec.ofNat 32 r.val) (BitVec.ofNat 32 t.val)) 128#32)) 128#32 := by
    pointwise [band, k0_pay6]
  rw [e]; exact band_word _ _ r.isLt t.isLt

theorem and_word (a b : BitVec 1) : IntOp.andi a b = 1#1 ↔ a = 1#1 ∧ b = 1#1 := by revert a b; decide
theorem or_word (a b : BitVec 1) : IntOp.ori a b = 1#1 ↔ a = 1#1 ∨ b = 1#1 := by revert a b; decide

theorem my_lo (c : Dev nD) : Scalar.cmpi .sgt (my c) 0#32 = 1#1 ↔ 0 < c.val := by revert c; decide
theorem my_hi (c : Dev nD) : Scalar.cmpi .slt (my c) 3#32 = 1#1 ↔ c.val < 3 := by revert c; decide

theorem maskLo_at (c : Dev nD) (r : Fin 128) (t : Fin 384) :
    maskLo (my c) (ix2 r t) = 1#1 ↔ (r.val ≤ t.val ∧ t.val ≤ r.val + 256) ∧ (128 ≤ t.val ∨ 0 < c.val) := by
  have e : maskLo (my c) (ix2 r t)
      = IntOp.andi (band (ix2 r t)) (IntOp.ori (IntOp.cmpi .sge (BitVec.ofNat 32 t.val) 128#32) (Scalar.cmpi .sgt (my c) 0#32)) := by
    pointwise [maskLo, cols]
  rw [e, and_word, or_word, band_at, my_lo, IntOp.cmpi_sge, ofNat_toInt (n := t.val) (by omega), show (128#32 : BitVec 32).toInt = 128 by decide]
  omega

theorem maskHi_at (c : Dev nD) (r : Fin 128) (t : Fin 384) :
    maskHi (my c) (ix2 r t) = 1#1 ↔ (r.val ≤ t.val ∧ t.val ≤ r.val + 256) ∧ (t.val < 256 ∨ c.val < 3) := by
  have e : maskHi (my c) (ix2 r t)
      = IntOp.andi (band (ix2 r t)) (IntOp.ori (IntOp.cmpi .slt (BitVec.ofNat 32 t.val) 256#32) (Scalar.cmpi .slt (my c) 3#32)) := by
    pointwise [maskHi, cols]
  rw [e, and_word, or_word, band_at, my_hi, IntOp.cmpi_slt, ofNat_toInt (n := t.val) (by omega), show (256#32 : BitVec 32).toInt = 256 by decide]
  omega

/-! ## The projection -/

theorem head_eq (f : Fin 8 → FVec Ideal S128x64 .f32) (r : Fin 128) {h h' : Fin 8} {d d' : Fin 64} (eh : h.val = h'.val) (ed : d.val = d'.val) :
    f h (ix2 r d) = f h' (ix2 r d') := by rw [Fin.ext eh, Fin.ext ed]

theorem project_at (f : Fin 8 → FVec Ideal S128x64 .f32) (wo : FVec Ideal S512x768 .f32) (r : Fin 128) (e : Fin 768) :
    project f (k0_pay9 (F := Ideal) wo) (ix3 0 r e)
      = ∑ u : Fin 512, f ⟨u.val / 64, by omega⟩ (ix2 r ⟨u.val % 64, by omega⟩) * wo (ix2 u e) := by
  pointwise [project, k0_pay9]
  refine Finset.sum_congr rfl fun u _ => ?_
  congr 1
  have hu := u.isLt
  split_ifs <;> (refine head_eq f r ?_ ?_ <;> dsimp only <;> omega)

end Cert.Halo
-- ==== Proof.KernelAt.lean ====
/-
The result of a device is the model at that device's rows: the 384 window columns of a block of rows are 384 different
columns of the whole line, every column near a row of the block is among them, and the mask keeps just the near ones.
-/
module

public import proofs.«01_k».proof.Proof.At

@[expose] public section

noncomputable section

namespace Cert.Halo

open Cert.KernelIdeal Cert.KernelIdeal.Gen
open Idealize.ShloMosaic Idealize.ShloMosaic.TcCoe

/-- Row `r` of block `n` of device `c`, on the whole line. -/
abbrev row (c : Dev nD) (n : Fin 4) (r : Fin 128) : Fin 2048 := ⟨512 * c.val + 128 * n.val + r.val, by have : c.val < 4 := c.isLt; omega⟩
/-- Column `t` of that block's window, on the whole line, which the ring of devices closes. -/
abbrev col (c : Dev nD) (n : Fin 4) (t : Fin 384) : Fin 2048 := ⟨(512 * c.val + 128 * n.val + t.val + 1920) % 2048, Nat.mod_lt _ (by decide)⟩

theorem col_inj (c : Dev nD) (n : Fin 4) {t t' : Fin 384} (h : col c n t = col c n t') : t = t' := by
  have h := congrArg Fin.val h
  have := t.isLt; have := t'.isLt
  dsimp only at h
  apply Fin.ext; omega

theorem col_onto (c : Dev nD) (n : Fin 4) (r : Fin 128) (j : Fin 2048) (h : Near (row c n r) j) : ∃ t, col c n t = j := by
  have hc : c.val < 4 := c.isLt
  obtain ⟨h1, h2⟩ := h
  dsimp only at h1 h2
  refine ⟨⟨(j.val + 2176 - (512 * c.val + 128 * n.val)) % 2048, by omega⟩, Fin.ext ?_⟩
  dsimp only; omega

/-- The sum over a window is the sum over the line, of anything that is zero away from the row. -/
theorem sum_window (c : Dev nD) (n : Fin 4) (r : Fin 128) (g : Fin 2048 → EReal) (hg : ∀ j, ¬Near (row c n r) j → g j = 0) :
    ∑ t, g (col c n t) = ∑ j, g j := by
  refine Finset.sum_of_injOn (col c n) (fun _ _ _ _ h => col_inj c n h) (fun _ _ => Finset.mem_coe.mpr (Finset.mem_univ _)) ?_ (fun _ _ => rfl)
  intro j _ hj
  refine hg j fun h => hj ?_
  obtain ⟨t, rfl⟩ := col_onto c n r j h
  exact ⟨t, Finset.mem_coe.mpr (Finset.mem_univ _), rfl⟩

variable (x : (⟨3, ![2, 2048, 768]⟩ : Shape).Idx → EReal) (wq : (⟨2, ![768, 512]⟩ : Shape).Idx → EReal)
  (k v : (⟨4, ![2, 2048, 8, 64]⟩ : Shape).Idx → EReal) (wo : (⟨2, ![512, 768]⟩ : Shape).Idx → EReal)

theorem att_mean (mask : IVec S128x384 1) (q : FVec Ideal S128x64 .f32) (kw vw : FVec Ideal S64x384 .f32) (c : Dev nD) (n : Fin 4) (r : Fin 128)
    (b : Fin 2) (h : Fin 8) (d : Fin 64)
    (hm : ∀ t, mask (ix2 r t) = 1#1 ↔ Near (row c n r) (col c n t))
    (hq : ∀ d, q (ix2 r d) = query x wq b (row c n r) h d)
    (hk : ∀ d t, kw (ix2 d t) = k (ix4 b (col c n t) h d)) (hv : ∀ d t, vw (ix2 d t) = v (ix4 b (col c n t) h d)) :
    att mask q kw vw (ix2 r d) = mean x wq k v b (row c n r) h d := by
  have hw : ∀ t, wgt q kw r (fun t => Near (row c n r) (col c n t)) t = weight x wq k b h (row c n r) (col c n t) := fun t => by
    unfold wgt weight score
    simp only [hq, hk]
  rw [att_at mask q kw vw r d (fun t => Near (row c n r) (col c n t)) hm, mean]
  simp only [hw, hv]
  rw [sum_window c n r (fun j => weight x wq k b h (row c n r) j * v (ix4 b j h d)) (fun j hj => by rw [weight, if_neg hj, zero_mul]),
    sum_window c n r (fun j => weight x wq k b h (row c n r) j) (fun j hj => by rw [weight, if_neg hj])]

/-! ## The device's blocks of the whole arrays -/

/-- Device `c` holds rows `512 * c` on of `x`. -/
def RowsOf (xx : Dev nD → Vec Ideal S2x512x768 .f32) : Prop :=
  ∀ c b (s : Fin 512) e, xx c (ix3 b s e) = x (ix3 b ⟨512 * c.val + s.val, by have : c.val < 4 := c.isLt; omega⟩ e)
/-- Device `c` holds columns `512 * c` on of `k`, heads and elements first. -/
def ColsOf (kk : Dev nD → Vec Ideal S2x8x64x512 .f32) : Prop :=
  ∀ c b h d (s : Fin 512), kk c (ix4 b h d s) = k (ix4 b ⟨512 * c.val + s.val, by have : c.val < 4 := c.isLt; omega⟩ h d)

variable {x k v}
variable {xx : Dev nD → Vec Ideal S2x512x768 .f32} {kk vv : Dev nD → Vec Ideal S2x8x64x512 .f32}

theorem query_at (hx : RowsOf x xx) (c : Dev nD) (b : Fin 2) (n : Fin 4) (h : Fin 8) (r : Fin 128) (d : Fin 64) :
    qAt (F := Ideal) (k0_pay5 (F := Ideal) (xx c) wq) b n h (ix2 r d) = query x wq b (row c n r) h d := by
  rw [qAt_at, query]
  refine Finset.sum_congr rfl fun e _ => ?_
  rw [hx]
  have e : (⟨512 * c.val + (128 * n.val + r.val), by have : c.val < 4 := c.isLt; omega⟩ : Fin 2048) = row c n r := Fin.ext (by dsimp only; omega)
  dsimp only
  rw [e]

theorem at_col (hk : ColsOf k kk) (c c' : Dev nD) (n : Fin 4) (t : Fin 384) (b : Fin 2) (h : Fin 8) (d : Fin 64) (s : Fin 512)
    (e : 512 * c'.val + s.val = (col c n t).val) : kk c' (ix4 b h d s) = k (ix4 b (col c n t) h d) := by
  rw [hk]; congr 2; exact Fin.ext e

theorem mid_at (hk : ColsOf k kk) (c : Dev nD) (b : Fin 2) (n : Fin 2) (h : Fin 8) (d : Fin 64) (t : Fin 384) :
    winMid (F := Ideal) (k0_pay7 (F := Ideal) (kk c)) b n h (ix2 d t) = k (ix4 b (col c ⟨n.val + 1, by omega⟩ t) h d) := by
  have hc : c.val < 4 := c.isLt
  rw [winMid_at]
  exact at_col hk c c _ t b h d _ (by dsimp only; omega)

theorem lo_at (hk : ColsOf k kk) (c : Dev nD) (b : Fin 2) (h : Fin 8) (d : Fin 64) (t : Fin 384) :
    winLo (F := Ideal) (k0_pay7 (F := Ideal) (kk c)) (extf .f32 (sv2 (F := Ideal) kk (prv c)) bitsLt_bf16_f32) b h (ix2 d t)
      = k (ix4 b (col c 0 t) h d) := by
  have hc : c.val < 4 := c.isLt
  have hp : (prv c).val = (c.val + 3) % 4 := rfl
  rw [winLo_at]
  split_ifs with ht
  · rw [sent_hi]
    exact at_col hk c (prv c) 0 t b h d _ (by show 512 * (prv c).val + (384 + t.val) = (512 * c.val + 128 * 0 + t.val + 1920) % 2048; omega)
  · exact at_col hk c c 0 t b h d _ (by show 512 * c.val + (t.val - 128) = (512 * c.val + 128 * 0 + t.val + 1920) % 2048; omega)

theorem hi_at (hk : ColsOf k kk) (c : Dev nD) (b : Fin 2) (h : Fin 8) (d : Fin 64) (t : Fin 384) :
    winHi (F := Ideal) (k0_pay7 (F := Ideal) (kk c)) (extf .f32 (sv0 (F := Ideal) kk (nxt c)) bitsLt_bf16_f32) b h (ix2 d t)
      = k (ix4 b (col c 3 t) h d) := by
  have hc : c.val < 4 := c.isLt
  have hn : (nxt c).val = (c.val + 1) % 4 := rfl
  rw [winHi_at]
  split_ifs with ht
  · exact at_col hk c c 3 t b h d _ (by show 512 * c.val + (256 + t.val) = (512 * c.val + 128 * 3 + t.val + 1920) % 2048; omega)
  · rw [sent_lo]
    exact at_col hk c (nxt c) 3 t b h d _ (by show 512 * (nxt c).val + (t.val - 256) = (512 * c.val + 128 * 3 + t.val + 1920) % 2048; omega)

/-! ## The blocks of the result -/

theorem project_mean (f : Fin 8 → FVec Ideal S128x64 .f32) (c : Dev nD) (n : Fin 4) (r : Fin 128) (b : Fin 2) (e : Fin 768)
    (hf : ∀ h d, f h (ix2 r d) = mean x wq k v b (row c n r) h d) :
    project f (k0_pay9 (F := Ideal) wo) (ix3 0 r e) = result x wq k v wo b (row c n r) e := by
  rw [project_at, result]
  simp only [hf]

theorem pay8 (v : Vec Ideal S2x8x64x512 .f32) : k0_pay8 (F := Ideal) v = k0_pay7 (F := Ideal) v := rfl
theorem vals_lo (c : Dev nD) : sv1 (F := Ideal) vv c = sv0 (F := Ideal) vv c := by unfold sv1 sv0; rfl
theorem vals_hi (c : Dev nD) : sv3 (F := Ideal) vv c = sv2 (F := Ideal) vv c := by unfold sv3 sv2; rfl

theorem near_col (c : Dev nD) (n : Fin 4) (r : Fin 128) (t : Fin 384) :
    Near (row c n r) (col c n t)
      ↔ (r.val ≤ t.val ∧ t.val ≤ r.val + 256) ∧ (n.val = 0 → 128 ≤ t.val ∨ 0 < c.val) ∧ (n.val = 3 → t.val < 256 ∨ c.val < 3) := by
  have hc : c.val < 4 := c.isLt
  have := r.isLt; have := t.isLt; have := n.isLt
  dsimp only [Near]
  omega

theorem lo_result (hx : RowsOf x xx) (hk : ColsOf k kk) (hv : ColsOf v vv) (c : Dev nD) (b : Fin 2) (r : Fin 128) (e : Fin 768) :
    blkLo (F := Ideal) (my c) (k0_pay5 (F := Ideal) (xx c) wq) (k0_pay7 (F := Ideal) (kk c)) (k0_pay7 (F := Ideal) (vv c))
        (extf .f32 (sv2 (F := Ideal) kk (prv c)) bitsLt_bf16_f32) (extf .f32 (sv2 (F := Ideal) vv (prv c)) bitsLt_bf16_f32)
        (k0_pay9 (F := Ideal) wo) b (ix3 0 r e)
      = result x wq k v wo b (row c 0 r) e := by
  unfold blkLo
  refine project_mean wq wo _ c 0 r b e fun h d => ?_
  refine att_mean x wq k v _ _ _ _ c 0 r b h d (fun t => ?_) (fun d => query_at wq hx c b 0 h r d)
    (fun d t => lo_at hk c b h d t) (fun d t => lo_at hv c b h d t)
  rw [maskLo_at, near_col]
  exact ⟨fun h => ⟨h.1, fun _ => h.2, fun h => absurd h (by decide)⟩, fun h => ⟨h.1, h.2.1 rfl⟩⟩

theorem mid_result (hx : RowsOf x xx) (hk : ColsOf k kk) (hv : ColsOf v vv) (c : Dev nD) (b : Fin 2) (n : Fin 2) (r : Fin 128) (e : Fin 768) :
    blkMid (F := Ideal) (k0_pay5 (F := Ideal) (xx c) wq) (k0_pay7 (F := Ideal) (kk c)) (k0_pay7 (F := Ideal) (vv c))
        (k0_pay9 (F := Ideal) wo) b n (ix3 0 r e)
      = result x wq k v wo b (row c ⟨n.val + 1, by omega⟩ r) e := by
  unfold blkMid
  refine project_mean wq wo _ c _ r b e fun h d => ?_
  refine att_mean x wq k v _ _ _ _ c _ r b h d (fun t => ?_) (fun d => query_at wq hx c b _ h r d)
    (fun d t => mid_at hk c b n h d t) (fun d t => mid_at hv c b n h d t)
  rw [band_at, near_col]
  exact ⟨fun h => ⟨h, fun h => by dsimp only at h; omega, fun h => by dsimp only at h; omega⟩, fun h => h.1⟩

theorem hi_result (hx : RowsOf x xx) (hk : ColsOf k kk) (hv : ColsOf v vv) (c : Dev nD) (b : Fin 2) (r : Fin 128) (e : Fin 768) :
    blkHi (F := Ideal) (my c) (k0_pay5 (F := Ideal) (xx c) wq) (k0_pay7 (F := Ideal) (kk c)) (k0_pay7 (F := Ideal) (vv c))
        (extf .f32 (sv0 (F := Ideal) kk (nxt c)) bitsLt_bf16_f32) (extf .f32 (sv0 (F := Ideal) vv (nxt c)) bitsLt_bf16_f32)
        (k0_pay9 (F := Ideal) wo) b (ix3 0 r e)
      = result x wq k v wo b (row c 3 r) e := by
  unfold blkHi
  refine project_mean wq wo _ c 3 r b e fun h d => ?_
  refine att_mean x wq k v _ _ _ _ c 3 r b h d (fun t => ?_) (fun d => query_at wq hx c b 3 h r d)
    (fun d t => hi_at hk c b h d t) (fun d t => hi_at hv c b h d t)
  rw [maskHi_at, near_col]
  exact ⟨fun h => ⟨h.1, fun h => absurd h (by decide), fun _ => h.2⟩, fun h => ⟨h.1, h.2.2 rfl⟩⟩

theorem blk_at (hx : RowsOf x xx) (hk : ColsOf k kk) (hv : ColsOf v vv) (c : Dev nD) (b : Fin 2) (n : Fin 4) (r : Fin 128) (e : Fin 768) :
    blk (F := Ideal) c (k0_pay5 (F := Ideal) (xx c) wq) (k0_pay7 (F := Ideal) (kk c)) (k0_pay8 (F := Ideal) (vv c))
        (extf .f32 (sv2 (F := Ideal) kk (prv c)) bitsLt_bf16_f32) (extf .f32 (sv3 (F := Ideal) vv (prv c)) bitsLt_bf16_f32)
        (extf .f32 (sv0 (F := Ideal) kk (nxt c)) bitsLt_bf16_f32) (extf .f32 (sv1 (F := Ideal) vv (nxt c)) bitsLt_bf16_f32)
        (k0_pay9 (F := Ideal) wo) b n (ix3 0 r e)
      = result x wq k v wo b (row c n r) e := by
  rw [pay8, vals_lo, vals_hi]
  match n with
  | 0 => exact lo_result wq wo hx hk hv c b r e
  | 1 => exact mid_result wq wo hx hk hv c b 0 r e
  | 2 => exact mid_result wq wo hx hk hv c b 1 r e
  | 3 => exact hi_result wq wo hx hk hv c b r e

/-- The result of device `c` holds rows `512 * c` on of the model's. -/
theorem outV_result (hx : RowsOf x xx) (hk : ColsOf k kk) (hv : ColsOf v vv) (c : Dev nD) (f : Vec Ideal S2x512x768 .f32)
    (b : Fin 2) (s : Fin 512) (e : Fin 768) :
    outV (F := Ideal) c (xx c) wq (kk c) (vv c) wo (sv2 (F := Ideal) kk (prv c)) (sv3 (F := Ideal) vv (prv c)) (sv0 (F := Ideal) kk (nxt c))
        (sv1 (F := Ideal) vv (nxt c)) f (ix3 b s e)
      = result x wq k v wo b ⟨512 * c.val + s.val, by have : c.val < 4 := c.isLt; omega⟩ e := by
  have hs := s.isLt
  have e1 : (ix3 b s e : S2x512x768.Idx)
      = (outR b ⟨s.val / 128, by omega⟩).emb (ix3 (0 : Fin 1) (⟨s.val % 128, by omega⟩ : Fin 128) e : S1x128x768.Idx) := by
    funext a
    apply Fin.ext
    rw [outR_val]
    match a with
    | 0 => exact (Nat.add_zero _).symm
    | 1 => show s.val = 128 * (s.val / 128) + s.val % 128; omega
    | 2 => exact (Nat.zero_add _).symm
  rw [e1, outV_at, blk_at wq wo hx hk hv]
  congr 1
  exact Fin.ext (by dsimp only; omega)

end Cert.Halo
-- ==== Proof.Row.lean ====
/-
One row of the softmax over the extended reals: dividing the shifted exponentials by their sum before the product with
the values, or the plain exponentials' product by their sum afterwards, is the same, whatever the values are, so long as
the kept scores are real.
-/
module

public import Idealize.ShloMosaic.PureOps.Ideal

@[expose] public section

noncomputable section

namespace Cert.Halo.Row

open Idealize.ShloMosaic

variable {ι : Type} [Fintype ι]

theorem sum_real (u : ι → ℝ) : (∑ j, ((u j : ℝ) : EReal)) = ((∑ j, u j : ℝ) : EReal) := by
  classical
  induction (Finset.univ : Finset ι) using Finset.induction_on with
  | empty => simp
  | insert a s ha ih => rw [Finset.sum_insert ha, Finset.sum_insert ha, ih, EReal.coe_add]

/-- A factor that is a real and not negative comes out of any sum. -/
theorem sum_mul_real (f : ι → EReal) (r : ℝ) (hr : 0 ≤ r) : (∑ j, f j) * (r : EReal) = ∑ j, f j * (r : EReal) := by
  classical
  induction (Finset.univ : Finset ι) using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- The largest kept score is real. -/
theorem max_real (z : ι → EReal) (i : ι) (hi : z i ≠ ⊥) (hz : ∀ j, z j ≠ ⊥ → ∃ r : ℝ, z j = r) :
    ∃ μ : ℝ, Finset.univ.fold max ⊥ z = (μ : EReal) := by
  have e : Finset.univ.fold max ⊥ z = Finset.univ.sup z := rfl
  obtain ⟨j, -, hj⟩ := Finset.exists_mem_eq_sup Finset.univ ⟨i, Finset.mem_univ i⟩ z
  have hle : z i ≤ Finset.univ.sup z := Finset.le_sup (Finset.mem_univ i)
  have hne : z j ≠ ⊥ := fun h => hi (le_bot_iff.mp (by rw [hj, h] at hle; exact hle))
  obtain ⟨r, hr⟩ := hz j hne
  exact ⟨r, by rw [e, hj, hr]⟩

variable (P : ι → Prop) [DecidablePred P]

theorem softmax (s v : ι → EReal) (i : ι) (hi : P i) (hs : ∀ j, P j → ∃ r : ℝ, s j = r) (z w : ι → EReal)
    (hz : ∀ j, z j = if P j then s j else ⊥) (hw : ∀ j, w j = Ideal.exp (z j - Finset.univ.fold max ⊥ z)) :
    (∑ j, v j * Ideal.div (w j) (∑ k, w k))
      = Ideal.div (∑ j, (if P j then Ideal.exp (s j) else 0) * v j) (∑ j, if P j then Ideal.exp (s j) else 0) := by
  classical
  have hzr : ∀ j, z j ≠ ⊥ → ∃ r : ℝ, z j = r := fun j h => by
    rw [hz] at h ⊢
    by_cases hp : P j
    · rw [if_pos hp]; exact hs j hp
    · rw [if_neg hp] at h; exact absurd rfl h
  obtain ⟨a, ha⟩ := hs i hi
  obtain ⟨μ, hμ⟩ := max_real z i (by rw [hz, if_pos hi, ha]; exact EReal.coe_ne_bot a) hzr
  rw [hμ] at hw
  have hr : ∀ j, P j → s j = ((s j).toReal : EReal) := fun j h => by
    obtain ⟨r, h⟩ := hs j h
    rw [h, EReal.toReal_coe]
  let u : ι → ℝ := fun j => if P j then Real.exp (s j).toReal else 0
  have hu : ∀ j, (if P j then Ideal.exp (s j) else 0) = ((u j : ℝ) : EReal) := fun j => by
    by_cases h : P j
    · simp only [u, if_pos h]; rw [hr j h, Ideal.exp_coe, EReal.toReal_coe]
    · simp only [u, if_neg h]; rfl
  have hwu : ∀ j, w j = ((u j * Real.exp (-μ) : ℝ) : EReal) := fun j => by
    rw [hw, hz]
    by_cases h : P j
    · simp only [u, if_pos h]
      rw [hr j h, EReal.toReal_coe, ← EReal.coe_sub, Ideal.exp_coe, sub_eq_add_neg, Real.exp_add]
    · simp only [u, if_neg h]
      rw [EReal.bot_sub, Ideal.exp_bot, zero_mul]; rfl
  have u0 : ∀ j, 0 ≤ u j := fun j => by
    by_cases h : P j
    · simp only [u, if_pos h]; exact (Real.exp_pos _).le
    · simp only [u, if_neg h]; exact le_refl _
  have ui : 0 < u i := by simp only [u, if_pos hi]; exact Real.exp_pos _
  have σ0 : 0 < ∑ j, u j := Finset.sum_pos' (fun j _ => u0 j) ⟨i, Finset.mem_univ i, ui⟩
  have κ0 : (0 : ℝ) < Real.exp (-μ) := Real.exp_pos _
  simp only [hu, hwu, sum_real, ← Finset.sum_mul]
  rw [Ideal.div_coe (ne_of_gt σ0), sum_mul_real _ _ (by positivity)]
  refine Finset.sum_congr rfl fun j _ => ?_
  have e : u j * Real.exp (-μ) * (1 / ((∑ k, u k) * Real.exp (-μ))) = u j * (1 / ∑ k, u k) := by field_simp
  rw [Ideal.div_coe (ne_of_gt (mul_pos σ0 κ0)), ← EReal.coe_mul, e, EReal.coe_mul, mul_comm ((u j : ℝ) : EReal) (v j), mul_assoc]

end Cert.Halo.Row
-- ==== Proof.Ref.lean ====
/-
The reference read at an index: the softmax with its maximum subtracted comes to the weighted mean of `Model`, once the
scores are real.
-/
module

public import proofs.«01_k».proof.Proof.Model
public import proofs.«01_k».proof.Proof.Row
public import proofs.«01_k».proof.Proof.Gen.ReferenceIdeal.Run

@[expose] public section

noncomputable section

namespace Cert.Halo.Ref

open Cert.ReferenceIdeal Cert.ReferenceIdeal.Gen Cert.ReferenceIdeal.Value
open Idealize.ShloMosaic Idealize.ShloMosaic.TcCoe

/-! ## The steps of the reference -/

def rQ (x : FVec Ideal S2x2048x768 .f32) (wq : FVec Ideal S768x512 .f32) : FVec Ideal S2x2048x8x64 .f32 :=
  shapeCast _ (Host.dotGeneral dot_S2x2048x768_S768x512_S2x2048x512_2_0_01_1_n_n none x wq) shapeCasts_S2x2048x512_S2x2048x8x64

def rMask : IVec S2048x2048 1 :=
  cmpi .sle (absi (subi
    (broadcastInDim S2048x2048 ![0, 1] bcast_S2048x1_S2048x2048_0_1 (broadcastInDim S2048x1 ![0] bcast_S2048_S2048x1_0 (iotaInDim S2048 32 0)))
    (broadcastInDim S2048x2048 ![0, 1] bcast_S1x2048_S2048x2048_0_1 (broadcastInDim S1x2048 ![1] bcast_S2048_S1x2048_1 (iotaInDim S2048 32 0)))))
    (broadcastInDim S2048x2048 ![] bcast_S_S2048x2048 (constantI S_ 32 128#32))

def rScores (q k : FVec Ideal S2x2048x8x64 .f32) : FVec Ideal S2x8x2048x2048 .f32 :=
  select (broadcastInDim S2x8x2048x2048 ![0, 1, 2, 3] bcast_S1x1x2048x2048_S2x8x2048x2048_0_1_2_3
      (broadcastInDim S1x1x2048x2048 ![2, 3] bcast_S2048x2048_S1x1x2048x2048_2_3 rMask))
    (mulf (Host.dotGeneral dot_S2x2048x8x64_S2x2048x8x64_S2x8x2048x2048_3_3_1_1_02_02 none q k)
      (broadcastInDim S2x8x2048x2048 ![] bcast_S_S2x8x2048x2048 (constant S_ .f32 0x3E000000#32)))
    (broadcastInDim S2x8x2048x2048 ![] bcast_S_S2x8x2048x2048 (id (constant S_ .f32 0xFF800000#32)))

def rMax (s : FVec Ideal S2x8x2048x2048 .f32) : FVec Ideal S2x8x2048 .f32 :=
  Host.reduce FloatOps.maximumf s (constant S_ .f32 0xFF800000#32) reducesTo_S2x8x2048x2048_S2x8x2048_d3 h_S_

def rExp (s : FVec Ideal S2x8x2048x2048 .f32) : FVec Ideal S2x8x2048x2048 .f32 :=
  Host.exp (subf s (broadcastInDim S2x8x2048x2048 ![0, 1, 2, 3] bcast_S2x8x2048x1_S2x8x2048x2048_0_1_2_3
    (broadcastInDim S2x8x2048x1 ![0, 1, 2] bcast_S2x8x2048_S2x8x2048x1_0_1_2 (rMax s))))

def rKeep : IVec S2048 1 := Host.reduce IntOp.ori rMask (constantI S_ 1 0#1) reducesTo_S2048x2048_S2048_d1 h_S_

def rSum (w : FVec Ideal S2x8x2048x2048 .f32) : FVec Ideal S2x8x2048 .f32 :=
  Host.reduceAdd w (constant S_ .f32 0x00000000#32) reducesTo_S2x8x2048x2048_S2x8x2048_d3 h_S_

def rDen (keep : IVec S2048 1) (s : FVec Ideal S2x8x2048 .f32) : FVec Ideal S2x8x2048x1 .f32 :=
  select (broadcastInDim S2x8x2048x1 ![0, 1, 2, 3] bcast_S1x1x2048x1_S2x8x2048x1_0_1_2_3
      (broadcastInDim S1x1x2048x1 ![2] bcast_S2048_S1x1x2048x1_2 keep))
    (broadcastInDim S2x8x2048x1 ![0, 1, 2] bcast_S2x8x2048_S2x8x2048x1_0_1_2 s)
    (broadcastInDim S2x8x2048x1 ![] bcast_S_S2x8x2048x1 (id (constant S_ .f32 0x3F800000#32)))

def rWeights (keep : IVec S2048 1) (w : FVec Ideal S2x8x2048x2048 .f32) (d : FVec Ideal S2x8x2048x1 .f32) :
    FVec Ideal S2x8x2048x2048 .f32 :=
  select (broadcastInDim S2x8x2048x2048 ![0, 1, 2, 3] bcast_S1x1x2048x1_S2x8x2048x2048_0_1_2_3
      (broadcastInDim S1x1x2048x1 ![2] bcast_S2048_S1x1x2048x1_2 keep))
    (Host.divf w (broadcastInDim S2x8x2048x2048 ![0, 1, 2, 3] bcast_S2x8x2048x1_S2x8x2048x2048_0_1_2_3 d))
    (broadcastInDim S2x8x2048x2048 ![] bcast_S_S2x8x2048x2048 (id (constant S_ .f32 0x00000000#32)))

def rOut (v : FVec Ideal S2x2048x8x64 .f32) (w : FVec Ideal S2x8x2048x2048 .f32) (wo : FVec Ideal S512x768 .f32) :
    FVec Ideal S2x2048x768 .f32 :=
  Host.dotGeneral dot_S2x2048x512_S512x768_S2x2048x768_2_0_01_1_n_n none
    (shapeCast _ (transpose S2x2048x8x64 [0, 3, 1, 2]
      (Host.dotGeneral dot_S2x2048x8x64_S2x8x2048x2048_S2x8x64x2048_1_3_3_2_02_01 none v w)
      transposes_S2x8x64x2048_S2x2048x8x64_0_3_1_2) shapeCasts_S2x2048x8x64_S2x2048x512) wo

/-- The whole reference of five arrays. -/
def rAll (x : FVec Ideal S2x2048x768 .f32) (wq : FVec Ideal S768x512 .f32) (k v : FVec Ideal S2x2048x8x64 .f32)
    (wo : FVec Ideal S512x768 .f32) : FVec Ideal S2x2048x768 .f32 :=
  rOut v (rWeights rKeep (rExp (rScores (rQ x wq) k)) (rDen rKeep (rSum (rExp (rScores (rQ x wq) k))))) wo

/-! ## Each read at an index -/

theorem rQ_at (x wq) (b : Fin 2) (i : Fin 2048) (h : Fin 8) (d : Fin 64) :
    rQ x wq (ix4 b i h d) = query x wq b i h d := by
  unfold query
  have e : hd h d = ⟨h.val * 64 + d.val, by omega⟩ := Fin.ext (by simp only [hd]; omega)
  rw [e]
  pointwise [rQ]

theorem rMask_at (i j : Fin 2048) : rMask (ix2 i j) = 1#1 ↔ Near i j := by
  have e : rMask (ix2 i j) = IntOp.cmpi .sle (IntOp.absi (IntOp.subi (BitVec.ofNat 32 i.val) (BitVec.ofNat 32 j.val))) 128#32 := by
    pointwise [rMask]
  rw [e]; exact near_word _ _ i.isLt j.isLt

theorem rScores_at (q k) (b : Fin 2) (h : Fin 8) (i j : Fin 2048) :
    rScores q k (ix4 b h i j)
      = if Near i j then (∑ d : Fin 64, q (ix4 b i h d) * k (ix4 b j h d)) * Ideal.ofBits .f32 0x3E000000#32 else ⊥ := by
  rw [← select_eq _ _ (rMask_at i j), ← ofBits_bot]
  pointwise [rScores]
  rfl

theorem rMax_at (s) (b : Fin 2) (h : Fin 8) (i : Fin 2048) :
    rMax s (ix3 b h i) = Finset.univ.fold max ⊥ (fun j => s (ix4 b h i j)) := by
  rw [← ofBits_bot]
  pointwise [rMax]

theorem rExp_at (s) (b : Fin 2) (h : Fin 8) (i j : Fin 2048) :
    rExp s (ix4 b h i j) = Ideal.exp (s (ix4 b h i j) - rMax s (ix3 b h i)) := by
  pointwise [rExp]

theorem or_fold {ι : Type} (s : Finset ι) (f : ι → BitVec 1) (i : ι) (hi : i ∈ s) (h : f i = 1#1) :
    s.fold IntOp.ori 0#1 f = 1#1 := by
  classical
  rw [← Finset.insert_erase hi, Finset.fold_insert (Finset.notMem_erase i s), h]
  generalize (s.erase i).fold IntOp.ori 0#1 f = y
  revert y; decide

theorem rKeep_at (i : Fin 2048) : rKeep (ix1 i) = 1#1 := by
  have e : rKeep (ix1 i) = Finset.univ.fold IntOp.ori 0#1 (fun j => rMask (ix2 i j)) := by
    pointwise [rKeep]
  rw [e]
  exact or_fold _ _ i (Finset.mem_univ i) ((rMask_at i i).mpr ⟨by omega, by omega⟩)

theorem rSum_at (w) (b : Fin 2) (h : Fin 8) (i : Fin 2048) : rSum w (ix3 b h i) = ∑ j, w (ix4 b h i j) := by
  pointwise [rSum]

theorem rDen_at (keep s) (b : Fin 2) (h : Fin 8) (i : Fin 2048) (hk : keep (ix1 i) = 1#1) :
    rDen keep s (ix4 b h i 0) = s (ix3 b h i) := by
  pointwise [rDen]
  rw [hk]; rfl

theorem rWeights_at (keep w d) (b : Fin 2) (h : Fin 8) (i j : Fin 2048) (hk : keep (ix1 i) = 1#1) :
    rWeights keep w d (ix4 b h i j) = Ideal.div (w (ix4 b h i j)) (d (ix4 b h i 0)) := by
  pointwise [rWeights]
  rw [hk]; rfl

theorem rOut_at (v w wo) (b : Fin 2) (i : Fin 2048) (e : Fin 768) :
    rOut v w wo (ix3 b i e) = ∑ u : Fin 512, (∑ j, v (ix4 b j ⟨u.val / 64, by omega⟩ ⟨u.val % 64, by omega⟩)
      * w (ix4 b ⟨u.val / 64, by omega⟩ i j)) * wo (ix2 u e) := by
  pointwise [rOut]

theorem res_eq (m) (c : Dev nD) : res_main_v34 (F := Idealize.ShloMosaic.Ideal) m c
    = rAll (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := rfl

/-- Once the scores are real, the reference is the model. -/
theorem rAll_at (x wq k v wo) (hs : ∀ b h i j, ∃ r : ℝ, score x wq k b h i j = r) (b : Fin 2) (i : Fin 2048) (e : Fin 768) :
    rAll x wq k v wo (ix3 b i e) = result x wq k v wo b i e := by
  unfold rAll result
  rw [rOut_at]
  refine Finset.sum_congr rfl fun u _ => ?_
  congr 1
  generalize (⟨u.val / 64, _⟩ : Fin 8) = h
  generalize (⟨u.val % 64, _⟩ : Fin 64) = d
  set s := rScores (rQ x wq) k with hsd
  have hz : ∀ j, s (ix4 b h i j) = if Near i j then score x wq k b h i j else ⊥ := fun j => by
    rw [hsd, rScores_at]
    simp only [rQ_at]
    rfl
  have := Row.softmax (Near i) (fun j => score x wq k b h i j) (fun j => v (ix4 b j h d)) i ⟨by omega, by omega⟩
    (fun j _ => hs b h i j) (fun j => s (ix4 b h i j)) (fun j => rExp s (ix4 b h i j)) hz
    (fun j => by rw [rExp_at, rMax_at])
  refine Eq.trans ?_ this
  refine Finset.sum_congr rfl fun j _ => ?_
  rw [rWeights_at _ _ _ _ _ _ _ (rKeep_at i), rDen_at _ _ _ _ _ (rKeep_at i), rSum_at]

end Cert.Halo.Ref
-- ==== Proof.Finite.lean ====
/-
What the precondition says: every element of a device's `x`, of `Wq` and of its `K` is real, and then so is every score.
-/
module

public import proofs.«01_k».proof.Defs
public import proofs.«01_k».proof.Proof.Model
public import proofs.«01_k».proof.Proof.Row
public import Idealize.ShloMosaic.Lib.ReduceAll

@[expose] public section

noncomputable section

namespace Cert.Halo

open Idealize.ShloMosaic

instance factsK : Cert.Pre_finite_KernelIdeal.Facts := by constructor <;> decide
instance factsR : Cert.Pre_finite_ReferenceIdeal.Facts := by constructor <;> decide

abbrev Real (a : EReal) : Prop := ∃ r : ℝ, a = r

theorem Real.mul {a b : EReal} : Real a → Real b → Real (a * b) := fun ⟨r, hr⟩ ⟨s, hs⟩ => ⟨r * s, by rw [hr, hs, EReal.coe_mul]⟩
theorem Real.sum {ι : Type} [Fintype ι] {f : ι → EReal} (h : ∀ j, Real (f j)) : Real (∑ j, f j) := by
  choose r hr using h
  exact ⟨∑ j, r j, by simp only [hr]; exact Row.sum_real r⟩

theorem real_of_lt {a : Ideal .f32}
    (h : FloatOps.cmpf .olt (FloatOps.hostAbsf a) (FloatOps.ofBits (F := Ideal) .f32 0x7F800000#32) = 1#1) : Real a := by
  have htop : Ideal.ofBits .f32 0x7F800000#32 = ⊤ := by simp [Ideal.ofBits, Ideal.ieee]
  have h' : Ideal.cmp .olt (max (a : EReal) (-(a : EReal))) (Ideal.ofBits .f32 0x7F800000#32) = 1#1 := h
  rw [htop] at h'
  have hlt : max (a : EReal) (-(a : EReal)) < ⊤ := by
    by_contra hn
    unfold Ideal.cmp at h'
    simp [hn] at h'
  rw [max_lt_iff] at hlt
  refine ⟨EReal.toReal a, (EReal.coe_toReal hlt.1.ne ?_).symm⟩
  intro hb
  rw [hb] at hlt
  exact absurd hlt.2 (by simp)

/-- The precondition of one device's blocks, element by element. -/
theorem finite_at {x wq k v wo} (h : Cert.Pre_finite_KernelIdeal.fn (F := Ideal) x wq k v wo = fun _ => 1#1) :
    (∀ i, Real (x i)) ∧ (∀ i, Real (wq i)) ∧ ∀ i, Real (k i) := by
  have e := congrFun h ix0
  unfold Cert.Pre_finite_KernelIdeal.fn at e
  obtain ⟨e12, e3⟩ := IntOp.andi_eq_one.1 e
  obtain ⟨e1, e2⟩ := IntOp.andi_eq_one.1 e12
  haveI : Subsingleton Cert.Pre_finite_KernelIdeal.S_.Idx := ⟨fun _ _ => funext fun a => a.elim0⟩
  exact ⟨fun i => real_of_lt (Host.reduce_andi_all _ _ _ _ _ e1 i), fun i => real_of_lt (Host.reduce_andi_all _ _ _ _ _ e2 i),
    fun i => real_of_lt (Host.reduce_andi_all _ _ _ _ _ e3 i)⟩

theorem score_real {x wq k} (hx : ∀ i, Real (x i)) (hw : ∀ i, Real (wq i)) (hk : ∀ i, Real (k i)) (b : Fin 2) (h : Fin 8) (i j : Fin 2048) :
    Real (score x wq k b h i j) :=
  Real.mul (Real.sum fun _ => Real.mul (Real.sum fun _ => Real.mul (hx _) (hw _)) (hk _)) eighth

end Cert.Halo
-- ==== Proof.Equal.lean ====
/-
The value claim: what each device ends holding is its block of what the reference ends holding.
-/
module

public import proofs.«01_k».proof.Proof.Frames
public import proofs.«01_k».proof.Proof.Whole
public import proofs.«01_k».proof.Proof.KernelAt
public import proofs.«01_k».proof.Proof.Ref
public import proofs.«01_k».proof.Proof.Finite
public import Idealize.ShloMosaic.Lib.LayoutAt

@[expose] public section

noncomputable section

namespace Cert.Halo

open Idealize.ShloMosaic Idealize.ShloMosaic.TcCoe Idealize.SL.Sem

/-! ## A device's block of a whole array, at an index -/

theorem block3 (c : Fin 4) (x : (⟨3, ![2, 2048, 768]⟩ : Shape).Idx → EReal) (b : Fin 2) (s : Fin 512) (e : Fin 768) :
    Layout.block ⟨3, ![2, 512, 768]⟩ ⟨3, ![2, 2048, 768]⟩ 1 4 c x (by decide) (ix3 b s e) = x (ix3 b ⟨512 * c.val + s.val, by omega⟩ e) := by
  shard_ext

theorem block4 (c : Fin 4) (k : (⟨4, ![2, 2048, 8, 64]⟩ : Shape).Idx → EReal) (b : Fin 2) (s : Fin 512) (h : Fin 8) (d : Fin 64) :
    Layout.block ⟨4, ![2, 512, 8, 64]⟩ ⟨4, ![2, 2048, 8, 64]⟩ 1 4 c k (by decide) (ix4 b s h d)
      = k (ix4 b ⟨512 * c.val + s.val, by omega⟩ h d) := by
  shard_ext

/-- If every device's block of an array is real, the array is. -/
theorem real3 (x : (⟨3, ![2, 2048, 768]⟩ : Shape).Idx → EReal)
    (h : ∀ c i, Real (Layout.block ⟨3, ![2, 512, 768]⟩ ⟨3, ![2, 2048, 768]⟩ 1 4 c x (by decide) i)) (i) : Real (x i) := by
  have h1 : (i 1).val < 2048 := (i 1).isLt
  obtain ⟨r, hr⟩ := h ⟨(i 1).val / 512, by omega⟩ (ix3 (i 0) ⟨(i 1).val % 512, by omega⟩ (i 2))
  refine ⟨r, (Eq.trans ?_ (block3 _ x _ _ _).symm).trans hr⟩
  refine (congrArg x (eq_ix3 i)).trans (congrArg (fun s => x (ix3 (i 0) s (i 2))) (Fin.ext ?_))
  show (i 1).val = 512 * ((i 1).val / 512) + (i 1).val % 512
  omega

theorem real4 (k : (⟨4, ![2, 2048, 8, 64]⟩ : Shape).Idx → EReal)
    (h : ∀ c i, Real (Layout.block ⟨4, ![2, 512, 8, 64]⟩ ⟨4, ![2, 2048, 8, 64]⟩ 1 4 c k (by decide) i)) (i) : Real (k i) := by
  have h1 : (i 1).val < 2048 := (i 1).isLt
  obtain ⟨r, hr⟩ := h ⟨(i 1).val / 512, by omega⟩ (ix4 (i 0) ⟨(i 1).val % 512, by omega⟩ (i 2) (i 3))
  refine ⟨r, (Eq.trans ?_ (block4 _ k _ _ _ _).symm).trans hr⟩
  refine (congrArg k (eq_ix4 i)).trans (congrArg (fun s => k (ix4 (i 0) s (i 2) (i 3))) (Fin.ext ?_))
  show (i 1).val = 512 * ((i 1).val / 512) + (i 1).val % 512
  omega

/-! ## The two results -/

section
open Cert.KernelIdeal Cert.KernelIdeal.Gen
variable (m : (ℓ : Loc nD τ sig) → Buf (Elt Ideal) ℓ)
  (x : (⟨3, ![2, 2048, 768]⟩ : Shape).Idx → EReal) (wq : (⟨2, ![768, 512]⟩ : Shape).Idx → EReal)
  (k v : (⟨4, ![2, 2048, 8, 64]⟩ : Shape).Idx → EReal) (wo : (⟨2, ![512, 768]⟩ : Shape).Idx → EReal)

/-- The device's result, from memories holding the blocks of the whole arrays. -/
theorem oS_at (h0 : ∀ c : Dev nD, m ((c.tc : Thread nD τ).loc main_arg0) = Layout.block ⟨3, ![2, 512, 768]⟩ ⟨3, ![2, 2048, 768]⟩ 1 4 c x)
    (h1 : ∀ c : Dev nD, m ((c.tc : Thread nD τ).loc main_arg1) = wq)
    (h2 : ∀ c : Dev nD, m ((c.tc : Thread nD τ).loc main_arg2) = Layout.block ⟨4, ![2, 512, 8, 64]⟩ ⟨4, ![2, 2048, 8, 64]⟩ 1 4 c k)
    (h3 : ∀ c : Dev nD, m ((c.tc : Thread nD τ).loc main_arg3) = Layout.block ⟨4, ![2, 512, 8, 64]⟩ ⟨4, ![2, 2048, 8, 64]⟩ 1 4 c v)
    (h4 : ∀ c : Dev nD, m ((c.tc : Thread nD τ).loc main_arg4) = wo)
    (c : Dev nD) (b : Fin 2) (s : Fin 512) (e : Fin 768) :
    oS (F := Ideal) m c (ix3 b s e) = result x wq k v wo b ⟨512 * c.val + s.val, by have : c.val < 4 := c.isLt; omega⟩ e := by
  have hx : RowsOf x (fun c => xS (F := Ideal) m c) := fun c b s e => by
    dsimp only
    rw [whole0, V_main_arg0, h0]; exact block3 c x b s e
  have hk : ColsOf k (fun c => kS (F := Ideal) m c) := fun c b h d s => by
    dsimp only
    rw [kS_at, h2]; exact block4 c k b s h d
  have hv : ColsOf v (fun c => vS (F := Ideal) m c) := fun c b h d s => by
    dsimp only
    rw [vS_at, h3]; exact block4 c v b s h d
  have eq : wqS (F := Ideal) m c = wq := by rw [whole1, V_main_arg1, h1]
  have eo : woS (F := Ideal) m c = wo := by rw [whole4, V_main_arg4, h4]
  unfold oS
  rw [eq, eo]
  exact outV_result wq wo hx hk hv c _ b s e
end

theorem equal : Cert.algebraic_KernelIdeal_ReferenceIdeal_pre_finite_KernelIdeal := by
  intro m g m' g' hpre hin
  refine ⟨Cert.ReferenceIdeal.Value.res_main_v34 (F := Ideal) m' 0, ?_, ?_⟩
  · refine (θ_run _ _ _).mono (fun r h c => ⟨?_, (h.1 c).1, (h.1 c).2.1, (h.1 c).2.2.1, (h.1 c).2.2.2.1, (h.1 c).2.2.2.2.1⟩) (run_frame (F := Ideal) m g)
    refine (h.1 c).2.2.2.2.2.trans ((final m c).trans ?_)
    have hf := fun c => finite_at (hpre c)
    have hx := real3 _ fun c i => by have := (hf c).1 i; rw [(hin c).1] at this; exact this
    have hw := fun i => by have := (hf 0).2.1 i; rw [(hin 0).2.1] at this; exact this
    have hk := real4 _ fun c i => by have := (hf c).2.2 i; rw [(hin c).2.2.1] at this; exact this
    funext i
    rw [eq_ix3 i]
    refine (oS_at m _ _ _ _ _ (fun c => (hin c).1) (fun c => (hin c).2.1) (fun c => (hin c).2.2.1) (fun c => (hin c).2.2.2.1)
      (fun c => (hin c).2.2.2.2) c (i 0) (i 1) (i 2)).trans ?_
    refine Eq.trans ?_ (block3 c _ (i 0) (i 1) (i 2)).symm
    rw [Ref.res_eq]
    exact (Ref.rAll_at _ _ _ _ _ (fun b h i j => score_real hx hw hk b h i j) _ _ _).symm
  · exact (θ_run _ _ _).mono (fun r h => h 0) (Cert.ReferenceIdeal.Value.run m' g')

end Cert.Halo
-- ==== Proof.lean ====
/-
The proof of the certificate's claim: the frames are in Proof/Frames.lean, the equation of the two results in
Proof/Equal.lean.
-/
module

public import proofs.«01_k».proof.Proof.Frames
public import proofs.«01_k».proof.Proof.Equal

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Halo.factsK, Cert.Halo.factsR,
  Cert.Halo.frame_plain, Cert.Halo.frame_ideal, fun m g _ => Cert.Halo.frame_ideal m g trivial,
  Cert.Halo.frame_ref, fun m g _ => Cert.Halo.frame_ref m g trivial,
  IdealRules.named_const.statement Cert.KernelIdeal.κ "mask" .f32 0xCE6E6B28#32 ⊥ rfl, Cert.Halo.equal⟩

end Cert.Proof

end
